-- ==== Defs.lean ====
def Pre_Kernel [hPre_sizes_fill_rows : Cert.Pre_sizes_fill_rows.Facts] (m : (ℓ : Loc Cert.Kernel.nD Cert.Kernel.τ Cert.Kernel.sig) → Buf (Elt Bits) ℓ) : Prop :=
  ∀ c : Dev Cert.Kernel.nD,
    (Cert.Pre_sizes_fill_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_fill_rows : Cert.Pre_sizes_fill_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fill_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_fill_rows [hPre_sizes_fill_rows : Cert.Pre_sizes_fill_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_fill_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_fill_rows : Cert.Pre_sizes_fill_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_fill_rows : Cert.Pre_sizes_fill_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_fill_rows [hReferenceIdeal : Cert.ReferenceIdeal.Facts] [hPre_sizes_fill_rows : Cert.Pre_sizes_fill_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_fill_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_fill_rows : Cert.Pre_sizes_fill_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_fill_rows : Cert.Pre_sizes_fill_rows.Facts),
    quiescent_Kernel (hKernel := hKernel) (hPre_sizes_fill_rows := hPre_sizes_fill_rows)
    ∧ quiescent_KernelIdeal (hKernelIdeal := hKernelIdeal) (hPre_sizes_fill_rows := hPre_sizes_fill_rows)
    ∧ quiescent_ReferenceIdeal (hReferenceIdeal := hReferenceIdeal)
    ∧ quiescent_ReferenceIdeal_pre_sizes_fill_rows (hReferenceIdeal := hReferenceIdeal) (hPre_sizes_fill_rows := hPre_sizes_fill_rows)
    ∧ preserves_Kernel_KernelIdeal
    ∧ algebraic_KernelIdeal_ReferenceIdeal (hKernelIdeal := hKernelIdeal) (hReferenceIdeal := hReferenceIdeal) (hPre_sizes_fill_rows := hPre_sizes_fill_rows)
-- ==== Pre_sizes_fill_rows.lean ====
abbrev S16384x2816 : Shape := ⟨2, ![16384, 2816]⟩
abbrev S16384 : Shape := ⟨1, ![16384]⟩
abbrev S16 : Shape := ⟨1, ![16]⟩
abbrev S16x2816x2816 : Shape := ⟨3, ![16, 2816, 2816]⟩
abbrev S16x2816 : Shape := ⟨2, ![16, 2816]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16384x2816 .fp8e4m3) (main_arg1 : FVec F S16384 .f32) (main_arg2 : IVec S16 32) (main_arg3 : FVec F S16x2816x2816 .fp8e4m3) (main_arg4 : FVec F S16x2816 .f32) : IVec S16 1 :=
  let main_c : IVec S_ 32 := constantI S_ 32 0#32
  let main_v0 : IVec S16 32 := broadcastInDim S16 ![] bcast_S_S16 main_c
  let main_v1 : IVec S16 1 := cmpi .sge main_arg2 main_v0
  let main_c_0 : IVec S_ 32 := constantI S_ 32 16384#32
  let main_v2 : IVec S16 32 := broadcastInDim S16 ![] bcast_S_S16 main_c_0
  let main_v3 : IVec S16 1 := cmpi .sle main_arg2 main_v2
  let main_v4 : IVec S16 1 := andi main_v1 main_v3
  let main_c_1 : IVec S_ 32 := constantI S_ 32 0#32
  let main_v5 : IVec S_ 32 := (fun x v => Host.reduce IntOp.addi x v reducesTo_S16_S_d0 h_S_) main_arg2 main_c_1
  let main_c_2 : IVec S_ 32 := constantI S_ 32 16384#32
  let main_v6 : IVec S_ 1 := cmpi .eq main_v5 main_c_2
  let main_v7 : IVec S16 1 := broadcastInDim S16 ![] bcast_S_S16 main_v6
  let main_v8 : IVec S16 1 := andi main_v4 main_v7
  main_v8
-- ==== Kernel.lean ====
abbrev S16384x2816 : Shape := ⟨2, ![16384, 2816]⟩
abbrev S16384 : Shape := ⟨1, ![16384]⟩
abbrev S16 : Shape := ⟨1, ![16]⟩
abbrev S16x2816x2816 : Shape := ⟨3, ![16, 2816, 2816]⟩
abbrev S16x2816 : Shape := ⟨2, ![16, 2816]⟩
abbrev S_ : Shape := ⟨0, ![]⟩
abbrev S1 : Shape := ⟨1, ![1]⟩
abbrev S79 : Shape := ⟨1, ![79]⟩
abbrev S1x79 : Shape := ⟨2, ![1, 79]⟩
abbrev S16x1 : Shape := ⟨2, ![16, 1]⟩
abbrev S16x79 : Shape := ⟨2, ![16, 79]⟩
abbrev S79x1 : Shape := ⟨2, ![79, 1]⟩
abbrev S16x1x2816 : Shape := ⟨3, ![16, 1, 2816]⟩
abbrev S256x2816 : Shape := ⟨2, ![256, 2816]⟩
abbrev S256 : Shape := ⟨1, ![256]⟩
abbrev S1x2816x2816 : Shape := ⟨3, ![1, 2816, 2816]⟩
abbrev S1x1x2816 : Shape := ⟨3, ![1, 1, 2816]⟩
abbrev S2816x2816 : Shape := ⟨2, ![2816, 2816]⟩
abbrev S256x1 : Shape := ⟨2, ![256, 1]⟩
abbrev S1x2816 : Shape := ⟨2, ![1, 2816]⟩

abbrev nBuf : Space → Nat
  | .hbm => 96
  | .vmem => 10
  | .smem => 5
  | _ => 0

abbrev bufTy : (tb : Table) → Fin (tcTables nBuf tb) → BufTy
  | .hbm, ⟨0, _⟩ => ⟨S16384x2816, .fp8e4m3⟩
  | .hbm, ⟨1, _⟩ => ⟨S16384, .f32⟩
  | .hbm, ⟨2, _⟩ => ⟨S16, .i32⟩
  | .hbm, ⟨3, _⟩ => ⟨S16x2816x2816, .fp8e4m3⟩
  | .hbm, ⟨4, _⟩ => ⟨S16x2816, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i1⟩
  | .hbm, ⟨15, _⟩ => ⟨S16, .i32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S_, .i32⟩
  | .hbm, ⟨26, _⟩ => ⟨S16, .i32⟩
  | .hbm, ⟨27, _⟩ => ⟨S16, .i32⟩
  | .hbm, ⟨28, _⟩ => ⟨S_, .i32⟩
  | .hbm, ⟨29, _⟩ => ⟨S_, .i32⟩
  | .hbm, ⟨30, _⟩ => ⟨S16, .i32⟩
  | .hbm, ⟨31, _⟩ => ⟨S16, .i32⟩
  | .hbm, ⟨32, _⟩ => ⟨S16, .i32⟩
  | .hbm, ⟨33, _⟩ => ⟨S_, .i32⟩
  | .hbm, ⟨34, _⟩ => ⟨S16, .i32⟩
  | .hbm, ⟨35, _⟩ => ⟨S16, .i1⟩
  | .hbm, ⟨36, _⟩ => ⟨S16, .i32⟩
  | .hbm, ⟨37, _⟩ => ⟨S16, .i32⟩
  | .hbm, ⟨38, _⟩ => ⟨S_, .i32⟩
  | .hbm, ⟨39, _⟩ => ⟨S16, .i32⟩
  | .hbm, ⟨40, _⟩ => ⟨S16, .i1⟩
  | .hbm, ⟨41, _⟩ => ⟨S16, .i1⟩
  | .hbm, ⟨42, _⟩ => ⟨S_, .i32⟩
  | .hbm, ⟨43, _⟩ => ⟨S16, .i32⟩
  | .hbm, ⟨44, _⟩ => ⟨S16, .i32⟩
  | .hbm, ⟨45, _⟩ => ⟨S16, .i32⟩
  | .hbm, ⟨46, _⟩ => ⟨S_, .i32⟩
  | .hbm, ⟨47, _⟩ => ⟨S16, .i32⟩
  | .hbm, ⟨48, _⟩ => ⟨S16, .i1⟩
  | .hbm, ⟨49, _⟩ => ⟨S16, .i32⟩
  | .hbm, ⟨50, _⟩ => ⟨S_, .i32⟩
  | .hbm, ⟨51, _⟩ => ⟨S16, .i32⟩
  | .hbm, ⟨52, _⟩ => ⟨S16, .i32⟩
  | .hbm, ⟨53, _⟩ => ⟨S_, .i32⟩
  | .hbm, ⟨54, _⟩ => ⟨S_, .i32⟩
  | .hbm, ⟨55, _⟩ => ⟨S16, .i32⟩
  | .hbm, ⟨56, _⟩ => ⟨S16, .i32⟩
  | .hbm, ⟨57, _⟩ => ⟨S_, .i32⟩
  | .hbm, ⟨58, _⟩ => ⟨S_, .i32⟩
  | .hbm, ⟨59, _⟩ => ⟨S16, .i32⟩
  | .hbm, ⟨60, _⟩ => ⟨S16, .i32⟩
  | .hbm, ⟨61, _⟩ => ⟨S1, .i32⟩
  | .hbm, ⟨62, _⟩ => ⟨S_, .i32⟩
  | .hbm, ⟨63, _⟩ => ⟨S79, .i32⟩
  | .hbm, ⟨64, _⟩ => ⟨S_, .i32⟩
  | .hbm, ⟨65, _⟩ => ⟨S_, .i32⟩
  | .hbm, ⟨66, _⟩ => ⟨S79, .i32⟩
  | .hbm, ⟨67, _⟩ => ⟨S79, .i32⟩
  | .hbm, ⟨68, _⟩ => ⟨S1x79, .i32⟩
  | .hbm, ⟨69, _⟩ => ⟨S16x1, .i32⟩
  | .hbm, ⟨70, _⟩ => ⟨S16x79, .i32⟩
  | .hbm, ⟨71, _⟩ => ⟨S16x79, .i32⟩
  | .hbm, ⟨72, _⟩ => ⟨S16x79, .i1⟩
  | .hbm, ⟨73, _⟩ => ⟨S16x79, .i32⟩
  | .hbm, ⟨74, _⟩ => ⟨S_, .i32⟩
  | .hbm, ⟨75, _⟩ => ⟨S_, .i32⟩
  | .hbm, ⟨76, _⟩ => ⟨S79, .i32⟩
  | .hbm, ⟨77, _⟩ => ⟨S79, .i1⟩
  | .hbm, ⟨78, _⟩ => ⟨S_, .i32⟩
  | .hbm, ⟨79, _⟩ => ⟨S79, .i32⟩
  | .hbm, ⟨80, _⟩ => ⟨S79, .i32⟩
  | .hbm, ⟨81, _⟩ => ⟨S79, .i32⟩
  | .hbm, ⟨82, _⟩ => ⟨S79x1, .i32⟩
  | .hbm, ⟨83, _⟩ => ⟨S79, .i32⟩
  | .hbm, ⟨84, _⟩ => ⟨S79, .i32⟩
  | .hbm, ⟨85, _⟩ => ⟨S_, .i32⟩
  | .hbm, ⟨86, _⟩ => ⟨S79, .i32⟩
  | .hbm, ⟨87, _⟩ => ⟨S79, .i1⟩
  | .hbm, ⟨88, _⟩ => ⟨S_, .i32⟩
  | .hbm, ⟨89, _⟩ => ⟨S79, .i32⟩
  | .hbm, ⟨90, _⟩ => ⟨S79, .i32⟩
  | .hbm, ⟨91, _⟩ => ⟨S79, .i32⟩
  | .hbm, ⟨92, _⟩ => ⟨S79x1, .i32⟩
  | .hbm, ⟨93, _⟩ => ⟨S79, .i32⟩
  | .hbm, ⟨94, _⟩ => ⟨S16x1x2816, .f32⟩
  | .hbm, ⟨95, _⟩ => ⟨S16384x2816, .bf16⟩
  | .local _ .vmem, ⟨0, _⟩ => ⟨S256x2816, .fp8e4m3⟩
  | .local _ .vmem, ⟨1, _⟩ => ⟨S256x2816, .fp8e4m3⟩
  | .local _ .vmem, ⟨2, _⟩ => ⟨S256, .f32⟩
  | .local _ .vmem, ⟨3, _⟩ => ⟨S256, .f32⟩
  | .local _ .vmem, ⟨4, _⟩ => ⟨S1x2816x2816, .fp8e4m3⟩
  | .local _ .vmem, ⟨5, _⟩ => ⟨S1x2816x2816, .fp8e4m3⟩
  | .local _ .vmem, ⟨6, _⟩ => ⟨S1x1x2816, .f32⟩
  | .local _ .vmem, ⟨7, _⟩ => ⟨S1x1x2816, .f32⟩
  | .local _ .vmem, ⟨8, _⟩ => ⟨S256x2816, .bf16⟩
  | .local _ .vmem, ⟨9, _⟩ => ⟨S256x2816, .bf16⟩
  | .local _ .smem, ⟨0, _⟩ => ⟨S79, .i32⟩
  | .local _ .smem, ⟨1, _⟩ => ⟨S79, .i32⟩
  | .local _ .smem, ⟨2, _⟩ => ⟨S16, .i32⟩
  | .local _ .smem, ⟨3, _⟩ => ⟨S16, .i32⟩
  | .local _ .smem, ⟨4, _⟩ => ⟨S1, .i32⟩
  | _, _ => ⟨S16384x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_c : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_v6 : Ref sig .tc := ⟨.hbm, 14, rfl⟩
abbrev main_call1_v7 : Ref sig .tc := ⟨.hbm, 15, rfl⟩
abbrev main_call1_v8 : Ref sig .tc := ⟨.hbm, 16, rfl⟩
abbrev main_call1_c : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_0 : Ref sig .tc := ⟨.hbm, 21, rfl⟩
abbrev main_call1_v12 : Ref sig .tc := ⟨.hbm, 22, rfl⟩
abbrev main_call1_v13 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_c_1 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_c : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_c_0 : Ref sig .tc := ⟨.hbm, 42, rfl⟩
abbrev main_call2_v12 : Ref sig .tc := ⟨.hbm, 43, rfl⟩
abbrev main_call2_v13 : Ref sig .tc := ⟨.hbm, 44, rfl⟩
abbrev main_v5 : Ref sig .tc := ⟨.hbm, 45, rfl⟩
abbrev main_c_2 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_c_3 : Ref sig .tc := ⟨.hbm, 50, rfl⟩
abbrev main_v9 : Ref sig .tc := ⟨.hbm, 51, rfl⟩
abbrev main_v10 : Ref sig .tc := ⟨.hbm, 52, rfl⟩
abbrev main_c_4 : Ref sig .tc := ⟨.hbm, 53, rfl⟩
abbrev main_call3_v0 : Ref sig .tc := ⟨.hbm, 54, rfl⟩
abbrev main_call3_v1 : Ref sig .tc := ⟨.hbm, 55, rfl⟩
abbrev main_v11 : Ref sig .tc := ⟨.hbm, 56, rfl⟩
abbrev main_call4_call0_c : Ref sig .tc := ⟨.hbm, 57, rfl⟩
abbrev main_call4_call0_v0 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_c_5 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_call5_call0_v0 : Ref sig .tc := ⟨.hbm, 68, rfl⟩
abbrev main_call5_call0_v1 : Ref sig .tc := ⟨.hbm, 69, rfl⟩
abbrev main_call5_call0_v2 : Ref sig .tc := ⟨.hbm, 70, rfl⟩
abbrev main_call5_call0_v3 : Ref sig .tc := ⟨.hbm, 71, rfl⟩
abbrev main_call5_call0_v4 : Ref sig .tc := ⟨.hbm, 72, rfl⟩
abbrev main_call5_call0_v5 : Ref sig .tc := ⟨.hbm, 73, rfl⟩
abbrev main_call5_call0_c : Ref sig .tc := ⟨.hbm, 74, rfl⟩
abbrev main_c_6 : Ref sig .tc := ⟨.hbm, 75, rfl⟩
abbrev main_v21 : Ref sig .tc := ⟨.hbm, 76, rfl⟩
abbrev main_v22 : Ref sig .tc := ⟨.hbm, 77, rfl⟩
abbrev main_c_7 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_c_8 : Ref sig .tc := ⟨.hbm, 85, rfl⟩
abbrev main_v29 : Ref sig .tc := ⟨.hbm, 86, rfl⟩
abbrev main_v30 : Ref sig .tc := ⟨.hbm, 87, rfl⟩
abbrev main_c_9 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v38 : Ref sig .tc := ⟨.hbm, 94, rfl⟩
abbrev main_v39 : Ref sig .tc := ⟨.hbm, 95, rfl⟩
abbrev main_v20 : Ref sig .tc := ⟨.smem, 0, rfl⟩
abbrev main_v36 : Ref sig .tc := ⟨.smem, 1, rfl⟩
abbrev main_v1 : Ref sig .tc := ⟨.smem, 2, rfl⟩
abbrev main_v0 : Ref sig .tc := ⟨.smem, 3, rfl⟩
abbrev main_v37 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![79], ![false]⟩

abbrev pre0 : Pipeline.Prefetch sig := ⟨5, ![main_v20.idx, main_v36.idx, main_v1.idx, main_v0.idx, main_v37.idx], fun | 0 => main_v20.names | 1 => main_v36.names | 2 => main_v1.names | 3 => main_v0.names | 4 => main_v37.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 1 → Nat :=
  let v25 : Index := Scalar.indexCast v1
  ![v25.toNat]
def k0_cond1 (i : grid0.Coords) (v4 : BitVec 32) : BitVec 1 :=
  let arg0 : BitVec 32 := BitVec.ofNat 32 (i 0).val
  let v5 : BitVec 1 := Scalar.cmpi .slt arg0 v4
  let v6 : BitVec 32 := Scalar.extui v5
  let c0_i32 : BitVec 32 := 0#32
  let v7 : BitVec 1 := Scalar.cmpi .ne v6 c0_i32
  v7

def k0_chk1 (i : grid0.Coords) (v1 : BitVec 32) (v4 : BitVec 32) : Prop :=
  (∀ (k0_h1 : k0_cond1 i v4 = 1#1), ∀ a, (k0_off2 v1) a + S1.size a ≤ S16.size a)
theorem k0_off2_inb : ∀ (i : grid0.Coords) (v1 : BitVec 32) (v4 : BitVec 32) (k0_hw1 : k0_chk1 i v1 v4), ∀ (k0_h1 : k0_cond1 i v4 = 1#1), ∀ a, (k0_off2 v1) a + S1.size a ≤ S16.size a := fun i v1 v4 k0_hw1 k0_h1 => k0_hw1 k0_h1

def k0_off3 (i : grid0.Coords) : Fin 1 → Nat :=
  let arg0 : BitVec 32 := BitVec.ofNat 32 (i 0).val
  let c1_i32 : BitVec 32 := 1#32
  let v35 : BitVec 32 := Scalar.subi arg0 c1_i32
  let c0_i32_10 : BitVec 32 := 0#32
  let v36 : BitVec 32 := Scalar.maxsi v35 c0_i32_10
  let v37 : Index := Scalar.indexCast v36
  ![v37.toNat]
def k0_cond2 (i : grid0.Coords) (v3 : BitVec 32) (v38 : BitVec 32) : BitVec 1 :=
  let arg0 : BitVec 32 := BitVec.ofNat 32 (i 0).val
  let c0_i32_9 : BitVec 32 := 0#32
  let v34 : BitVec 1 := Scalar.cmpi .eq arg0 c0_i32_9
  let v39 : BitVec 1 := Scalar.cmpi .ne v38 v3
  let v40 : BitVec 1 := Scalar.ori v34 v39
  let v41 : BitVec 32 := Scalar.extui v40
  let c0_i32_11 : BitVec 32 := 0#32
  let v42 : BitVec 1 := Scalar.cmpi .ne v41 c0_i32_11
  v42

def k0_cond3 (i : grid0.Coords) (v3 : BitVec 32) (v38 : BitVec 32) : BitVec 1 :=
  let arg0 : BitVec 32 := BitVec.ofNat 32 (i 0).val
  let c0_i32_9 : BitVec 32 := 0#32
  let v34 : BitVec 1 := Scalar.cmpi .eq arg0 c0_i32_9
  let v39 : BitVec 1 := Scalar.cmpi .ne v38 v3
  let v40 : BitVec 1 := Scalar.ori v34 v39
  let v_true : BitVec 1 := 1#1
  let v43 : BitVec 1 := Scalar.xori v40 v_true
  let v44 : BitVec 32 := Scalar.extui v43
  let c0_i32_12 : BitVec 32 := 0#32
  let v45 : BitVec 1 := Scalar.cmpi .ne v44 c0_i32_12
  v45

def cc0_transform_0 (k0_off1_inb : ∀ i : grid0.Coords, ∀ a, (k0_off1 i) a + S1.size a ≤ S79.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S79) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S79.size a) (numel1_S1 : S1.numel = 1) (pf : pre0.Contents (Elt F)) (i : grid0.Coords) : Fin 1 → Nat :=
  let arg0 : BitVec 32 := BitVec.ofNat 32 (i 0).val
  let v0 : Index := Scalar.indexCast arg0
  let v1 : BitVec 32 := pf.at 1 (Rect.unit (s := S79) ![v0.toNat] S1.size (k0_off1_inb i)) numel1_S1
  let c0_i32 : BitVec 32 := 0#32
  ![v1.toNat]

def cc0_transform_2 (k0_off1_inb : ∀ i : grid0.Coords, ∀ a, (k0_off1 i) a + S1.size a ≤ S79.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S79) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S79.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S79) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S79.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S79) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2816 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2816x2816 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x2816 : Shape := ⟨2, ![16384, 2816]⟩
abbrev S16384 : Shape := ⟨1, ![16384]⟩
abbrev S16 : Shape := ⟨1, ![16]⟩
abbrev S16x2816x2816 : Shape := ⟨3, ![16, 2816, 2816]⟩
abbrev S16x2816 : Shape := ⟨2, ![16, 2816]⟩
abbrev S_ : Shape := ⟨0, ![]⟩
abbrev S1x16384 : Shape := ⟨2, ![1, 16384]⟩
abbrev S16x1 : Shape := ⟨2, ![16, 1]⟩
abbrev S16x16384 : Shape := ⟨2, ![16, 16384]⟩
abbrev S16384x1 : Shape := ⟨2, ![16384, 1]⟩
abbrev S1x2816x2816 : Shape := ⟨3, ![1, 2816, 2816]⟩
abbrev S2816x2816 : Shape := ⟨2, ![2816, 2816]⟩
abbrev S1 : Shape := ⟨1, ![1]⟩
abbrev S1x1 : Shape := ⟨2, ![1, 1]⟩

abbrev nBuf : Space → Nat
  | .hbm => 50
  | .vmem => 4
  | .smem => 0
  | _ => 0

abbrev bufTy : (tb : Table) → Fin (tcTables nBuf tb) → BufTy
  | .hbm, ⟨0, _⟩ => ⟨S16384x2816, .fp8e4m3⟩
  | .hbm, ⟨1, _⟩ => ⟨S16384, .f32⟩
  | .hbm, ⟨2, _⟩ => ⟨S16, .i32⟩
  | .hbm, ⟨3, _⟩ => ⟨S16x2816x2816, .fp8e4m3⟩
  | .hbm, ⟨4, _⟩ => ⟨S16x2816, .f32⟩
  | .hbm, ⟨5, _⟩ => ⟨S_, .i32⟩
  | .hbm, ⟨6, _⟩ => ⟨S_, .i32⟩
  | .hbm, ⟨7, _⟩ => ⟨S16, .i32⟩
  | .hbm, ⟨8, _⟩ => ⟨S16384, .i32⟩
  | .hbm, ⟨9, _⟩ => ⟨S1x16384, .i32⟩
  | .hbm, ⟨10, _⟩ => ⟨S16x1, .i32⟩
  | .hbm, ⟨11, _⟩ => ⟨S16x16384, .i32⟩
  | .hbm, ⟨12, _⟩ => ⟨S16x16384, .i32⟩
  | .hbm, ⟨13, _⟩ => ⟨S16x16384, .i1⟩
  | .hbm, ⟨14, _⟩ => ⟨S16x16384, .i32⟩
  | .hbm, ⟨15, _⟩ => ⟨S_, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S16384x2816, .f32⟩
  | .hbm, ⟨22, _⟩ => ⟨S16384x1, .f32⟩
  | .hbm, ⟨23, _⟩ => ⟨S16384x2816, .f32⟩
  | .hbm, ⟨24, _⟩ => ⟨S16384x2816, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S1, .i32⟩
  | .hbm, ⟨34, _⟩ => ⟨S_, .i32⟩
  | .hbm, ⟨35, _⟩ => ⟨S16384x1, .i32⟩
  | .hbm, ⟨36, _⟩ => ⟨S16384x1, .i1⟩
  | .hbm, ⟨37, _⟩ => ⟨S1x1, .i32⟩
  | .hbm, ⟨38, _⟩ => ⟨S16384x1, .i32⟩
  | .hbm, ⟨39, _⟩ => ⟨S16384x1, .i1⟩
  | .hbm, ⟨40, _⟩ => ⟨S16384x1, .i1⟩
  | .hbm, ⟨41, _⟩ => ⟨S_, .i1⟩
  | .hbm, ⟨42, _⟩ => ⟨S16384, .i1⟩
  | .hbm, ⟨43, _⟩ => ⟨S16384x2816, .f32⟩
  | .hbm, ⟨44, _⟩ => ⟨S16384x2816, .i1⟩
  | .hbm, ⟨45, _⟩ => ⟨S_, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .bf16⟩
  | .local _ .vmem, ⟨0, _⟩ => ⟨S16384x1, .i32⟩
  | .local _ .vmem, ⟨1, _⟩ => ⟨S16384x2816, .fp8e4m3⟩
  | .local _ .vmem, ⟨2, _⟩ => ⟨S16x2816x2816, .fp8e4m3⟩
  | .local _ .vmem, ⟨3, _⟩ => ⟨S16384x2816, .f32⟩
  | _, _ => ⟨S16384x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_call1_call0_v0 : Ref sig .tc := ⟨.hbm, 9, rfl⟩
abbrev main_call1_call0_v1 : Ref sig .tc := ⟨.hbm, 10, rfl⟩
abbrev main_call1_call0_v2 : Ref sig .tc := ⟨.hbm, 11, rfl⟩
abbrev main_call1_call0_v3 : Ref sig .tc := ⟨.hbm, 12, rfl⟩
abbrev main_call1_call0_v4 : Ref sig .tc := ⟨.hbm, 13, rfl⟩
abbrev main_call1_call0_v5 : Ref sig .tc := ⟨.hbm, 14, rfl⟩
abbrev main_call1_call0_c : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call2_c : Ref sig .tc := ⟨.hbm, 25, rfl⟩
abbrev main_call2_v0 : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_c_2 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_3 : Ref sig .tc := ⟨.hbm, 41, rfl⟩
abbrev main_call2_v12 : Ref sig .tc := ⟨.hbm, 42, rfl⟩
abbrev main_call2_v13 : Ref sig .tc := ⟨.hbm, 43, rfl⟩
abbrev main_call2_v14 : Ref sig .tc := ⟨.hbm, 44, rfl⟩
abbrev main_call2_cst : Ref sig .tc := ⟨.hbm, 45, rfl⟩
abbrev main_call2_v15 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16384x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x2816 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2816x2816 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelRuns.lean ====
/- The launch of `Kernel`'s pallas_call: what the region finds when it is entered. The buffers after the host lines
   (`V`), @main up to the region (`hmain`), the five prefetched tables read off them (`tbl`), the pipeline at those
   tables (`cfgM`), each window's block at a point (`iblk`), the fact that an input's staging buffer holds its block at
   every point, and the body as the pipeline calls it (`bodyAt0`). -/
module

public import proofs.«01_k».proof.Proof.Gen.Kernel.Launch
public import proofs.«01_k».proof.Proof.Gen.Kernel.Skeleton
public import proofs.«01_k».proof.Proof.Gen.Kernel
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- A host line before the region writes none of the five arguments, so the region finds each as launched. -/
theorem V_arg (c : Dev nD) (b : Ref sig .tc) (hb : b ∈ [main_arg0, main_arg1, main_arg2, main_arg3, main_arg4]) :
    V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.not_mem_nil, or_false] at hb
    repeat' apply And.intro
    all_goals refine StableHlo.devRef_ne_of_ne ?_
    all_goals rcases hb with rfl | rfl | rfl | rfl | rfl <;> decide))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 5) : V m c (pre0.ref j) = tbl m j := by
  obtain rfl : c = 0 := Subsingleton.elim _ _; rfl
/-- The tables' contents are the buffers' when the region is entered; nothing below looks inside them. -/
theorem tbl_eq (j : Fin 5) : tbl m j = V m (0 : Dev nD) (pre0.ref j) := rfl
attribute [irreducible] tbl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S79 .i32 := Memref.whole main_v20
abbrev htbM0_0 : tbM0_0.IsWhole := Memref.isWhole_whole _
abbrev tbM0_1 : Memref sig .tc .smem S79 .i32 := Memref.whole main_v36
abbrev htbM0_1 : tbM0_1.IsWhole := Memref.isWhole_whole _
abbrev tbM0_2 : Memref sig .tc .smem S16 .i32 := Memref.whole main_v1
abbrev htbM0_2 : tbM0_2.IsWhole := Memref.isWhole_whole _
abbrev tbM0_3 : Memref sig .tc .smem S16 .i32 := Memref.whole main_v0
abbrev htbM0_3 : tbM0_3.IsWhole := Memref.isWhole_whole _
abbrev tbM0_4 : Memref sig .tc .smem S1 .i32 := Memref.whole main_v37
abbrev htbM0_4 : tbM0_4.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x2816 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2816x2816 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2816 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x2816 .bf16 := spec0_4.stage ((cfgM m hO).slots t 4)
abbrev hs0_4 (hO : Ok m) (t : Fin (cfgM m hO).N) : (ms0_4 m hO t).IsWhole := hstage0_4 (((cfgM m hO).slots t 4).cast nbuf0_4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__body (grid0.coords t) (Memref.whole main_v20) (Memref.isWhole_whole _) (Memref.whole main_v36) (Memref.isWhole_whole _) (Memref.whole main_v1) (Memref.isWhole_whole _) (Memref.whole main_v0) (Memref.isWhole_whole _) (Memref.whole main_v37) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

end Cert.Kernel.Run

end
-- ==== Proof.KernelTab.lean ====
/- The words of `Kernel`'s five prefetched tables: `gW`, `tW`, `sW`, `eW`, `nW` by position; the body's three conditions and
   the five index maps in them; the property of the tables the launch needs (`TabOK`) and the pipeline's side condition
   from it (`ok_of_tab`). -/
module

public import proofs.«01_k».proof.Proof.KernelRuns
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables' words, by position -/

/-- The group of visit `n`. -/
def gW (pf : pre0.Contents (Elt F)) (n : ℕ) : BitVec 32 := pf.atD 0 ![n]
/-- The row tile of visit `n`. -/
def tW (pf : pre0.Contents (Elt F)) (n : ℕ) : BitVec 32 := pf.atD 1 ![n]
/-- The first row of group `g`. -/
def sW (pf : pre0.Contents (Elt F)) (g : ℕ) : BitVec 32 := pf.atD 2 ![g]
/-- The row past group `g`'s last. -/
def eW (pf : pre0.Contents (Elt F)) (g : ℕ) : BitVec 32 := pf.atD 3 ![g]
/-- How many visits there are. -/
def nW (pf : pre0.Contents (Elt F)) : BitVec 32 := pf.atD 4 ![0]

/-- What the launch needs of the tables: every tile and group named is in range, there is a visit, and past the last
    visit the tile does not move. -/
structure TabOK (pf : pre0.Contents (Elt F)) : Prop where
  tile_lt : ∀ n, n < 79 → (tW pf n).toNat < 64
  group_lt : ∀ n, n < 79 → (gW pf n).toNat < 16
  tot_pos : 1 ≤ (nW pf).toNat
  tot_le : (nW pf).toNat ≤ 79
  stay : ∀ n, 1 ≤ n → n < 79 → (nW pf).toNat ≤ n → tW pf n = tW pf (n - 1)

theorem coord_lt (i : grid0.Coords) : (i 0).val < 79 := (i 0).isLt
theorem coord_val : ∀ t : Fin grid0.N, ((grid0.coords t) 0).val = t.val := by decide

theorem off1_eq (i : grid0.Coords) : k0_off1 i = ![(i 0).val] := by
  have := coord_lt i
  unfold k0_off1; dsimp only [Scalar.indexCast]
  rw [BitVec.toNat_ofNat, Nat.mod_eq_of_lt (by omega)]
theorem off2_eq (g : BitVec 32) : k0_off2 g = ![g.toNat] := rfl
theorem off3_eq : ∀ i : grid0.Coords, k0_off3 i = ![(i 0).val - 1] := by
  have h : ∀ n : Fin 79, ![(Scalar.indexCast (Scalar.maxsi (Scalar.subi (BitVec.ofNat 32 n.val) 1#32) 0#32)).toNat] = ![n.val - 1] := by decide
  exact fun i => h (i 0)

/-- The guard of a visit: the point is before the visits' count. -/
theorem cond1_iff (i : grid0.Coords) (tot : BitVec 32) (h : tot.toNat ≤ 79) : k0_cond1 i tot = 1#1 ↔ (i 0).val < tot.toNat := by
  have := coord_lt i
  have e : (IntOp.cmpi .slt (BitVec.ofNat 32 (i 0).val) tot) = BitVec.ofBool (decide ((i 0).val < tot.toNat)) := by
    rw [WordCmp.cmpi_slt_of_lt (by rw [BitVec.toNat_ofNat, Nat.mod_eq_of_lt (by omega)]; omega) (by omega), BitVec.toNat_ofNat, Nat.mod_eq_of_lt (by omega)]
  unfold k0_cond1
  show (IntOp.cmpi .ne ((IntOp.cmpi .slt (BitVec.ofNat 32 (i 0).val) tot).setWidth 32) 0#32) = 1#1 ↔ _
  rw [e]
  by_cases hd : (i 0).val < tot.toNat
  · simp only [hd, decide_true]; decide
  · simp only [hd, decide_false]; decide

/-- The first-visit condition: the first point, or a tile other than the previous point's. -/
theorem cond2_iff (i : grid0.Coords) (tile prev : BitVec 32) : k0_cond2 i tile prev = 1#1 ↔ (i 0).val = 0 ∨ prev ≠ tile := by
  have := coord_lt i
  unfold k0_cond2
  show (IntOp.cmpi .ne ((IntOp.ori (IntOp.cmpi .eq (BitVec.ofNat 32 (i 0).val) 0#32) (IntOp.cmpi .ne prev tile)).setWidth 32) 0#32) = 1#1 ↔ _
  rw [WordCmp.cmpi_eq_eq, WordCmp.cmpi_ne_eq prev tile, WordCmp.ori_ofBool]
  have h0 : BitVec.ofNat 32 (i 0).val = 0#32 ↔ (i 0).val = 0 := by
    constructor
    · intro h
      have := congrArg BitVec.toNat h
      rw [BitVec.toNat_ofNat, Nat.mod_eq_of_lt (by omega)] at this
      simpa using this
    · intro h; rw [h]
  by_cases ha : (i 0).val = 0
  · simp only [h0, ha, decide_true, Bool.true_or, true_or, iff_true]; decide
  · by_cases hb : prev = tile
    · simp only [h0, ha, hb, decide_false, ne_eq, not_true_eq_false, Bool.or_false, or_false, iff_false]; decide
    · simp only [h0, ha, hb, decide_false, decide_true, ne_eq, not_false_eq_true, Bool.false_or, or_true, iff_true]; decide

/-- The third branch's condition is the negation of the second's. -/
theorem cond3_iff (i : grid0.Coords) (tile prev : BitVec 32) : k0_cond3 i tile prev = 1#1 ↔ ¬ k0_cond2 i tile prev = 1#1 := by
  unfold k0_cond3 k0_cond2
  dsimp only
  generalize Scalar.ori _ _ = b
  revert b; decide

/-! ## The words the index maps read, and the launch's side condition -/

theorem at0 (pf : pre0.Contents (Elt F)) (i : grid0.Coords) (off : Fin 1 → ℕ) (hoff : off = ![(i 0).val]) (hi : ∀ a, off a + S1.size a ≤ S79.size a) (h) :
    (pf.at 0 (Rect.unit (s := S79) off S1.size hi) h : BitVec 32) = gW pf (i 0).val := by
  subst hoff
  have := coord_lt i
  unfold gW Pipeline.Prefetch.Contents.atD
  rw [dif_pos (by intro a; fin_cases a; exact this)]
  exact congrArg (pf 0) (funext fun a => Fin.ext (by fin_cases a; rfl))
theorem at1 (pf : pre0.Contents (Elt F)) (i : grid0.Coords) (off : Fin 1 → ℕ) (hoff : off = ![(i 0).val]) (hi : ∀ a, off a + S1.size a ≤ S79.size a) (h) :
    (pf.at 1 (Rect.unit (s := S79) off S1.size hi) h : BitVec 32) = tW pf (i 0).val := by
  subst hoff
  have := coord_lt i
  unfold tW Pipeline.Prefetch.Contents.atD
  rw [dif_pos (by intro a; fin_cases a; exact this)]
  exact congrArg (pf 1) (funext fun a => Fin.ext (by fin_cases a; rfl))

theorem tr0 (pf : pre0.Contents (Elt F)) (i : grid0.Coords) : cc0_transform_0 k0_off1_inb numel1_S1 pf i = ![(tW pf (i 0).val).toNat, 0] := by
  exact congrArg (fun w : BitVec 32 => (![w.toNat, 0] : Fin 2 → ℕ)) (at1 pf i _ (off1_eq i) (k0_off1_inb i) numel1_S1)
theorem tr1 (pf : pre0.Contents (Elt F)) (i : grid0.Coords) : cc0_transform_1 k0_off1_inb numel1_S1 pf i = ![(tW pf (i 0).val).toNat] := by
  exact congrArg (fun w : BitVec 32 => (![w.toNat] : Fin 1 → ℕ)) (at1 pf i _ (off1_eq i) (k0_off1_inb i) numel1_S1)
theorem tr2 (pf : pre0.Contents (Elt F)) (i : grid0.Coords) : cc0_transform_2 k0_off1_inb numel1_S1 pf i = ![(gW pf (i 0).val).toNat, 0, 0] := by
  exact congrArg (fun w : BitVec 32 => (![w.toNat, 0, 0] : Fin 3 → ℕ)) (at0 pf i _ (off1_eq i) (k0_off1_inb i) numel1_S1)
theorem tr3 (pf : pre0.Contents (Elt F)) (i : grid0.Coords) : cc0_transform_3 k0_off1_inb numel1_S1 pf i = ![(gW pf (i 0).val).toNat, 0, 0] := by
  exact congrArg (fun w : BitVec 32 => (![w.toNat, 0, 0] : Fin 3 → ℕ)) (at0 pf i _ (off1_eq i) (k0_off1_inb i) numel1_S1)
theorem tr4 (pf : pre0.Contents (Elt F)) (i : grid0.Coords) : cc0_transform_4 k0_off1_inb numel1_S1 pf i = ![(tW pf (i 0).val).toNat, 0] := by
  exact congrArg (fun w : BitVec 32 => (![w.toNat, 0] : Fin 2 → ℕ)) (at1 pf i _ (off1_eq i) (k0_off1_inb i) numel1_S1)

/-- With every tile below 64 and every group below 16 each block lies inside its array. -/
theorem ok_of_tab (pf : pre0.Contents (Elt F)) (h : TabOK pf) : ok0 pf := by
  have ht : ∀ i : grid0.Coords, (tW pf (i 0).val).toNat < 64 := fun i => h.tile_lt _ (coord_lt i)
  have hg : ∀ i : grid0.Coords, (gW pf (i 0).val).toNat < 16 := fun i => h.group_lt _ (coord_lt i)
  refine ⟨fun i => ⟨?_, .inr (.inl (.inr ⟨by decide, rfl, .inl ⟨?_, ⟨64, rfl⟩⟩⟩))⟩, fun i => ⟨?_, .inl rfl⟩, fun i => ⟨?_, .inr (.inr ⟨by decide, rfl, ?_, rfl⟩)⟩, fun i => ⟨?_, .inl rfl⟩,
    fun i => ⟨?_, .inr (.inl (.inr ⟨by decide, rfl, .inl ⟨?_, ⟨128, rfl⟩⟩⟩))⟩⟩
  · rw [tr0]; have := ht i; intro a; fin_cases a
    · show ((tW pf (i 0).val).toNat + 1) * 256 ≤ 16384; omega
    · show (0 + 1) * 2816 ≤ 2816; omega
  · exact Dvd.dvd.mul_left (by decide : 4 ∣ 256) _
  · rw [tr1]; have := ht i; intro a; fin_cases a
    show ((tW pf (i 0).val).toNat + 1) * 256 ≤ 16384; omega
  · rw [tr2]; have := hg i; intro a; fin_cases a
    · show ((gW pf (i 0).val).toNat + 1) * 1 ≤ 16; omega
    · show (0 + 1) * 2816 ≤ 2816; omega
    · show (0 + 1) * 2816 ≤ 2816; omega
  · show cc0_transform_2 k0_off1_inb numel1_S1 pf i 1 * 2816 = 0
    rw [tr2]; rfl
  · rw [tr3]; have := hg i; intro a; fin_cases a
    · show ((gW pf (i 0).val).toNat + 1) * 1 ≤ 16; omega
    · show (0 + 1) * 1 ≤ 1; omega
    · show (0 + 1) * 2816 ≤ 2816; omega
  · rw [tr4]; have := ht i; intro a; fin_cases a
    · show ((tW pf (i 0).val).toNat + 1) * 256 ≤ 16384; omega
    · show (0 + 1) * 2816 ≤ 2816; omega
  · exact Dvd.dvd.mul_left (by decide : 2 ∣ 256) _

/-- A scalar load of a table reads the word at its offset. -/
theorem rd0 (pf : pre0.Contents (Elt F)) (c : Dev nD) (n : ℕ) (hn : n < 79) (off : Fin 1 → ℕ) (hoff : off = ![n]) (hi : ∀ a, off a + S1.size a ≤ S79.size a) (h : 0 < (Rect.unit (s := S79) off S1.size hi).shape.numel) :
    View.readAt (Elt F) tbM0_0.view (Rect.unit (s := S79) off S1.size hi).toLoadRect (pf 0) (Shape.Idx.first h) = gW pf n := by
  subst hoff
  unfold gW Pipeline.Prefetch.Contents.atD
  rw [dif_pos (by intro a; fin_cases a; exact hn)]
  exact congrArg (pf 0) (funext fun a => Fin.ext (by fin_cases a; rfl))
theorem rd1 (pf : pre0.Contents (Elt F)) (c : Dev nD) (n : ℕ) (hn : n < 79) (off : Fin 1 → ℕ) (hoff : off = ![n]) (hi : ∀ a, off a + S1.size a ≤ S79.size a) (h : 0 < (Rect.unit (s := S79) off S1.size hi).shape.numel) :
    View.readAt (Elt F) tbM0_1.view (Rect.unit (s := S79) off S1.size hi).toLoadRect (pf 1) (Shape.Idx.first h) = tW pf n := by
  subst hoff
  unfold tW Pipeline.Prefetch.Contents.atD
  rw [dif_pos (by intro a; fin_cases a; exact hn)]
  exact congrArg (pf 1) (funext fun a => Fin.ext (by fin_cases a; rfl))
theorem rd2 (pf : pre0.Contents (Elt F)) (c : Dev nD) (n : ℕ) (off : Fin 1 → ℕ) (hoff : off = ![n]) (hi : ∀ a, off a + S1.size a ≤ S16.size a) (h : 0 < (Rect.unit (s := S16) off S1.size hi).shape.numel) :
    View.readAt (Elt F) tbM0_2.view (Rect.unit (s := S16) off S1.size hi).toLoadRect (pf 2) (Shape.Idx.first h) = sW pf n := by
  subst hoff
  unfold sW Pipeline.Prefetch.Contents.atD
  rw [dif_pos (by intro a; fin_cases a; exact hi 0)]
  exact congrArg (pf 2) (funext fun a => Fin.ext (by fin_cases a; rfl))
theorem rd3 (pf : pre0.Contents (Elt F)) (c : Dev nD) (n : ℕ) (off : Fin 1 → ℕ) (hoff : off = ![n]) (hi : ∀ a, off a + S1.size a ≤ S16.size a) (h : 0 < (Rect.unit (s := S16) off S1.size hi).shape.numel) :
    View.readAt (Elt F) tbM0_3.view (Rect.unit (s := S16) off S1.size hi).toLoadRect (pf 3) (Shape.Idx.first h) = eW pf n := by
  subst hoff
  unfold eW Pipeline.Prefetch.Contents.atD
  rw [dif_pos (by intro a; fin_cases a; exact hi 0)]
  exact congrArg (pf 3) (funext fun a => Fin.ext (by fin_cases a; rfl))
theorem rd4 (pf : pre0.Contents (Elt F)) (c : Dev nD) (hi : ∀ a, (![0] : Fin 1 → ℕ) a + S1.size a ≤ S1.size a) (h : 0 < (Rect.unit (s := S1) ![0] S1.size hi).shape.numel) :
    View.readAt (Elt F) tbM0_4.view (Rect.unit (s := S1) ![0] S1.size hi).toLoadRect (pf 4) (Shape.Idx.first h) = nW pf := by
  unfold nW Pipeline.Prefetch.Contents.atD
  rw [dif_pos (by intro a; fin_cases a; exact hi 0)]
  exact congrArg (pf 4) (funext fun a => Fin.ext (by fin_cases a; rfl))

end Cert.Kernel.Run

end
-- ==== Proof.KernelBody.lean ====
/- One grid point of `Kernel`'s body: `visit`, what it leaves in the output's block (from the block's earlier contents, the
   inputs' blocks and the tables' words), and `body_run`, the triple saying that it does. -/
module

public import proofs.«01_k».proof.Proof.KernelTab
public import Idealize.ShloMosaic.Lib.VecWindow

@[expose] public section

-- membership in a rectangle of production extents (`View.cover_of_tiled`): the elaborator's structural look
-- recurses once per coordinate of the long axes
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word a scalar load of a table reads: the element at its offset. -/
abbrev rd {c : Dev nD} {S : Shape} (M : Memref sig .tc .smem S .i32) (xt : TbBuf0 (F := F) c M) (r : Rect S) (h : 0 < r.shape.numel) : BitVec 32 :=
  View.readAt (Elt F) M.view r.toLoadRect xt (Shape.Idx.first h)

/-- What one visit leaves in the output's block: on a first visit to the tile the group's rows whole; on a later visit
    the group's own rows over what the block held; past the last visit, what it held. -/
def visit (i : grid0.Coords) (tile tot st en prev : BitVec 32) (x0 : Vec F S256x2816 .fp8e4m3) (x1 : Vec F S256 .f32)
    (x2 : Vec F S1x2816x2816 .fp8e4m3) (x3 : Vec F S1x1x2816 .f32) (d : Vec F S256x2816 .bf16) : Vec F S256x2816 .bf16 :=
  if k0_cond1 i tot = 1#1 then
    if k0_cond2 i tile prev = 1#1 then k0_pay1 x0 x2 x1 x3 else k0_pay2 tile x0 x2 x1 x3 st en d
  else d

section
variable (i : grid0.Coords) (tile tot st en prev : BitVec 32) (x0 : Vec F S256x2816 .fp8e4m3) (x1 : Vec F S256 .f32)
    (x2 : Vec F S1x2816x2816 .fp8e4m3) (x3 : Vec F S1x1x2816 .f32) (d : Vec F S256x2816 .bf16)

theorem visit_idle (h : ¬ k0_cond1 i tot = 1#1) : visit i tile tot st en prev x0 x1 x2 x3 d = d := if_neg h
theorem visit_first (h : k0_cond1 i tot = 1#1) (h2 : k0_cond2 i tile prev = 1#1) :
    visit i tile tot st en prev x0 x1 x2 x3 d = k0_pay1 x0 x2 x1 x3 := (if_pos h).trans (if_pos h2)
theorem visit_later (h : k0_cond1 i tot = 1#1) (h2 : ¬ k0_cond2 i tile prev = 1#1) :
    visit i tile tot st en prev x0 x1 x2 x3 d = k0_pay2 tile x0 x2 x1 x3 st en d := (if_pos h).trans (if_neg h2)

end

set_option maxHeartbeats 4000000 in
/-- The body on whole staging memrefs and the tables: with the words it reads named (`hg` …) and its assumption on the
    group word met (`hchk`), it leaves the inputs and the tables as they were and the output's block at `visit`. -/
theorem body_run (c : Dev nD) (i : grid0.Coords) (arg6 : Memref sig .tc .vmem S256x2816 .fp8e4m3) (harg6 : arg6.IsWhole) (arg7 : Memref sig .tc .vmem S256 .f32) (harg7 : arg7.IsWhole) (arg8 : Memref sig .tc .vmem S1x2816x2816 .fp8e4m3) (harg8 : arg8.IsWhole) (arg9 : Memref sig .tc .vmem S1x1x2816 .f32) (harg9 : arg9.IsWhole) (arg10 : Memref sig .tc .vmem S256x2816 .bf16) (harg10 : arg10.IsWhole)
    (x0 : Vec F S256x2816 .fp8e4m3) (x1 : Vec F S256 .f32) (x2 : Vec F S1x2816x2816 .fp8e4m3) (x3 : Vec F S1x1x2816 .f32) (d4 : Vec F S256x2816 .bf16)
    (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4)
    (g tile tot st en prev : BitVec 32)
    (hg : ∀ h h', rd tbM0_0 xt0 (Rect.unit (k0_off1 i) S1.size h) h' = g)
    (htile : ∀ h h', rd tbM0_1 xt1 (Rect.unit (k0_off1 i) S1.size h) h' = tile)
    (htot : ∀ h h', rd tbM0_4 xt4 (Rect.unit ![0] S1.size h) h' = tot)
    (hst : ∀ h h', rd tbM0_2 xt2 (Rect.unit (k0_off2 g) S1.size h) h' = st)
    (hen : ∀ h h', rd tbM0_3 xt3 (Rect.unit (k0_off2 g) S1.size h) h' = en)
    (hprev : ∀ h h', rd tbM0_1 xt1 (Rect.unit (k0_off3 i) S1.size h) h' = prev)
    (hchk : k0_chk1 i g tot) :
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare d4 ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare (visit i tile tot st en prev x0 x1 x2 x3 d4) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0__body i tbM0_0 htbM0_0 tbM0_1 htbM0_1 tbM0_2 htbM0_2 tbM0_3 htbM0_3 tbM0_4 htbM0_4 arg6 harg6 arg7 harg7 arg8 harg8 arg9 harg9 arg10 harg10) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, HT4, Hk⟩
    obtain rfl := harg6.eq_unread hf0; obtain rfl := harg7.eq_unread hf1; obtain rfl := harg8.eq_unread hf2; obtain rfl := harg9.eq_unread hf3; obtain rfl := harg10.eq_unread hf4
    sl_exec
    rw [show body_run.sl.r c i xt0 = g from hg _ _, show body_run.sl.r_1 c i xt1 = tile from htile _ _, show body_run.sl.r_2 c xt4 = tot from htot _ _]
    by_cases hc1 : k0_cond1 i tot = 1#1
    · sl_exec
      rw [show body_run.sl.r_5 c i xt1 = prev from hprev _ _]
      sl_step
      iapply Hk
      isplitl [H0]
      · iexists _; isplitr; · ipureintro; exact harg6.read_unread _
        iexact H0
      isplitl [H1]
      · iexists _; isplitr; · ipureintro; exact harg7.read_unread _
        iexact H1
      isplitl [H2]
      · iexists _; isplitr; · ipureintro; exact harg8.read_unread _
        iexact H2
      isplitl [H3]
      · iexists _; isplitr; · ipureintro; exact harg9.read_unread _
        iexact H3
      isplitl [H4]
      · iexists _; isplitr; swap; · iexact H4
        ipureintro
        unfold visit
        rw [if_pos hc1]
        have q0 : View.readAt (Elt F) arg6.view (Rect.unit ![0, 0] S256x2816.size inb_S256x2816_S256x2816_0_0).toLoadRect (harg6.unread x0) = x0 := (View.readAt_full _ _ _).trans hf0
        have q1 : View.readAt (Elt F) arg7.view (Rect.unit ![0] S256.size inb_S256_S256_0).toLoadRect (harg7.unread x1) = x1 := (View.readAt_full _ _ _).trans hf1
        have q2 : View.readAt (Elt F) arg8.view (Rect.unit ![0, 0, 0] S1x2816x2816.size inb_S1x2816x2816_S1x2816x2816_0_0_0).toLoadRect (harg8.unread x2) = x2 := (View.readAt_full _ _ _).trans hf2
        have q3 : View.readAt (Elt F) arg9.view (Rect.unit ![0, 0, 0] S1x1x2816.size inb_S1x1x2816_S1x1x2816_0_0_0).toLoadRect (harg9.unread x3) = x3 := (View.readAt_full _ _ _).trans hf3
        by_cases hc2 : k0_cond2 i tile prev = 1#1
        · have hc3 : ¬ k0_cond3 i tile prev = 1#1 := fun h => (cond3_iff i tile prev).mp h hc2
          rw [dif_neg hc3, dif_pos hc2, if_pos hc2, q0, q1, q2, q3]
          exact View.read_writes_full _ _ _ _ _
        · have hc3 : k0_cond3 i tile prev = 1#1 := (cond3_iff i tile prev).mpr hc2
          have e3 : body_run.sl.r_3 c i xt2 g tot hchk hc1 = st := hst _ _
          have e4 : body_run.sl.r_4 c i xt3 g tot hchk hc1 = en := hen _ _
          have e5 : body_run.sl.r_5 c i xt1 = prev := hprev _ _
          have q4 : body_run.sl.v46 c i arg6 harg6 arg7 harg7 arg8 harg8 arg9 harg9 arg10 harg10 x0 x1 x2 x3 d4 xt1 tile = d4 := by
            unfold body_run.sl.v46
            rw [e5, dif_neg hc2]
            exact (View.readAt_full _ _ _).trans hf4
          rw [dif_pos hc3, if_neg hc2, q0, q1, q2, q3, e3, e4, q4]
          exact View.read_writes_full _ _ _ _ _
      isplitl [HT0]; · iexact HT0
      isplitl [HT1]; · iexact HT1
      isplitl [HT2]; · iexact HT2
      isplitl [HT3]; · iexact HT3
      iexact HT4
    · sl_exec
      sl_step
      iapply Hk
      isplitl [H0]
      · iexists _; isplitr; · ipureintro; exact harg6.read_unread _
        iexact H0
      isplitl [H1]
      · iexists _; isplitr; · ipureintro; exact harg7.read_unread _
        iexact H1
      isplitl [H2]
      · iexists _; isplitr; · ipureintro; exact harg8.read_unread _
        iexact H2
      isplitl [H3]
      · iexists _; isplitr; · ipureintro; exact harg9.read_unread _
        iexact H3
      isplitl [H4]
      · iexists _; isplitr; swap; · iexact H4
        ipureintro
        unfold visit
        rw [if_neg hc1]; exact hf4
      isplitl [HT0]; · iexact HT0
      isplitl [HT1]; · iexact HT1
      isplitl [HT2]; · iexact HT2
      isplitl [HT3]; · iexact HT3
      iexact HT4

end Cert.Kernel.Run

end
-- ==== Proof.KernelFrame.lean ====
/- The frame of `Kernel`. `outs`: what the output's block holds after each point — one visit over what it held, carried from
   point to point. The proof data (`dats`), the schedule facts (a visit that is not the tile's first finds what the point
   before left: `not_fresh`), the body obligation, the run (`run_main`: every array at the library's `arrAt`) and the
   frame. -/
module

public import proofs.«01_k».proof.Proof.KernelBody
public import Idealize.ShloMosaic.Lib.Pipeline.TableIdle

@[expose] public section

-- membership in a rectangle of production extents (`View.cover_of_tiled`): the elaborator's structural look
-- recurses once per coordinate of the long axes
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output's block holds after each point -/

/-- The inputs' blocks at point `t`, at their shapes: the row tile of `x`, of `x_scales`, the group's weights and their scales. -/
def xB (hO : Ok m) (c : Dev nD) (t : Fin grid0.N) : Vec F S256x2816 .fp8e4m3 := iblk m hO c 0 t
def xsB (hO : Ok m) (c : Dev nD) (t : Fin grid0.N) : Vec F S256 .f32 := iblk m hO c 1 t
def wB (hO : Ok m) (c : Dev nD) (t : Fin grid0.N) : Vec F S1x2816x2816 .fp8e4m3 := iblk m hO c 2 t
def wsB (hO : Ok m) (c : Dev nD) (t : Fin grid0.N) : Vec F S1x1x2816 .f32 := iblk m hO c 3 t

/-- One visit over contents `d` of the output's block, at the words and the blocks of point `t`. -/
def stepAt (hO : Ok m) (c : Dev nD) (t : Fin grid0.N) (d : Vec F S256x2816 .bf16) : Vec F S256x2816 .bf16 :=
  visit (grid0.coords t) (tW (tbl m) t.val) (nW (tbl m)) (sW (tbl m) (gW (tbl m) t.val).toNat) (eW (tbl m) (gW (tbl m) t.val).toNat) (tW (tbl m) (t.val - 1))
    (xB m hO c t) (xsB m hO c t) (wB m hO c t) (wsB m hO c t) d

/-- The group's rows whole: the block after a first visit. -/
def yAt (hO : Ok m) (c : Dev nD) (t : Fin grid0.N) : Vec F S256x2816 .bf16 := k0_pay1 (xB m hO c t) (wB m hO c t) (xsB m hO c t) (wsB m hO c t)

/-- The output's block after point `n`. -/
def outs (hO : Ok m) (c : Dev nD) (n : ℕ) : Vec F S256x2816 .bf16 :=
  Nat.rec (motive := fun _ => Vec F S256x2816 .bf16) (yAt m hO c ⟨0, by decide⟩)
    (fun n d => if h : n + 1 < 79 then stepAt m hO c ⟨n + 1, h⟩ d else d) n

theorem outs_zero (hO : Ok m) (c : Dev nD) : outs m hO c 0 = yAt m hO c ⟨0, by decide⟩ := rfl
theorem outs_succ (hO : Ok m) (c : Dev nD) (n : ℕ) (h : n + 1 < 79) : outs m hO c (n + 1) = stepAt m hO c ⟨n + 1, h⟩ (outs m hO c n) :=
  dif_pos h

/-- Past the last visit a point leaves the block as it found it. -/
theorem stepAt_idle (hT : TabOK (tbl m)) (hO : Ok m) (c : Dev nD) (t : Fin grid0.N) (h : (nW (tbl m)).toNat ≤ t.val) (d : Vec F S256x2816 .bf16) :
    stepAt m hO c t d = d := by
  have e1 := cond1_iff (grid0.coords t) (nW (tbl m)) hT.tot_le
  rw [coord_val] at e1
  exact visit_idle _ _ _ _ _ _ _ _ _ _ _ (by rw [e1]; omega)

/-- A first visit to a tile leaves the group's rows whole, whatever was found. -/
theorem stepAt_first (hT : TabOK (tbl m)) (hO : Ok m) (c : Dev nD) (t : Fin grid0.N) (h : t.val < (nW (tbl m)).toNat)
    (hf : t.val = 0 ∨ tW (tbl m) (t.val - 1) ≠ tW (tbl m) t.val) (d : Vec F S256x2816 .bf16) : stepAt m hO c t d = yAt m hO c t := by
  have e1 := cond1_iff (grid0.coords t) (nW (tbl m)) hT.tot_le
  have e2 := cond2_iff (grid0.coords t) (tW (tbl m) t.val) (tW (tbl m) (t.val - 1))
  rw [coord_val] at e1 e2
  exact visit_first _ _ _ _ _ _ _ _ _ _ _ (e1.mpr h) (e2.mpr hf)

/-- A later visit leaves the group's own rows over what was found. -/
theorem stepAt_later (hT : TabOK (tbl m)) (hO : Ok m) (c : Dev nD) (t : Fin grid0.N) (h : t.val < (nW (tbl m)).toNat)
    (h0 : t.val ≠ 0) (hf : tW (tbl m) (t.val - 1) = tW (tbl m) t.val) (d : Vec F S256x2816 .bf16) :
    stepAt m hO c t d = k0_pay2 (tW (tbl m) t.val) (xB m hO c t) (wB m hO c t) (xsB m hO c t) (wsB m hO c t)
      (sW (tbl m) (gW (tbl m) t.val).toNat) (eW (tbl m) (gW (tbl m) t.val).toNat) d := by
  have e1 := cond1_iff (grid0.coords t) (nW (tbl m)) hT.tot_le
  have e2 := cond2_iff (grid0.coords t) (tW (tbl m) t.val) (tW (tbl m) (t.val - 1))
  rw [coord_val] at e1 e2
  exact visit_later _ _ _ _ _ _ _ _ _ _ _ (e1.mpr h) (by rw [e2]; rintro (h | h); exacts [h0 h, h hf])

/-! ## The pipeline's proof data -/

/-- The proof data of the one pipeline on core `c`: the arrays as the region finds them (`V`); after the body at point `t`
    each input's buffer at its block and the output's at `outs`; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outs m hO c t.val
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outs m hO c t.val := by dsimp only [dats]; try rfl

/-- Each input's current staging buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The schedule of the output's window -/

/-- The output's block index at point `t` is its row tile. -/
theorem index4 (hO : Ok m) (t : Fin (cfgM m hO).N) : ((cfgM m hO).win 4).index t = ![(tW (tbl m) t.val).toNat, 0] := by
  have h := tr4 (tbl m) (grid0.coords t)
  rw [coord_val] at h
  exact h

/-- A point is idle for the output exactly past the last visit. -/
theorem idle4 (hO : Ok m) (hT : TabOK (tbl m)) (t : Fin (cfgM m hO).N) :
    (cfgM m hO).idle 4 ((cfgM m hO).grid.coords t) = true ↔ (nW (tbl m)).toNat ≤ t.val := by
  have e1 : k0_cond1 (grid0.coords t) (nW (tbl m)) = 1#1 ↔ t.val < (nW (tbl m)).toNat := by
    have := cond1_iff (grid0.coords t) (nW (tbl m)) hT.tot_le
    rwa [coord_val] at this
  have e3 := cond3_iff (grid0.coords t) ((tbl m).atD 1 (k0_off1 (grid0.coords t))) ((tbl m).atD 1 (k0_off3 (grid0.coords t)))
  show ((!(k0_cond1 (grid0.coords t) (nW (tbl m)) == 1#1 && k0_cond2 (grid0.coords t) ((tbl m).atD 1 (k0_off1 (grid0.coords t))) ((tbl m).atD 1 (k0_off3 (grid0.coords t))) == 1#1)
    && !(k0_cond1 (grid0.coords t) (nW (tbl m)) == 1#1 && k0_cond3 (grid0.coords t) ((tbl m).atD 1 (k0_off1 (grid0.coords t))) ((tbl m).atD 1 (k0_off3 (grid0.coords t))) == 1#1)) = true) ↔ _
  simp only [Bool.and_eq_true, Bool.not_eq_true', Bool.and_eq_false_iff, beq_eq_false_iff_ne, ne_eq, e1, e3, not_lt, not_not]
  tauto

/-- A point whose tile is the previous point's finds the previous point's contents. -/
theorem not_fresh (hO : Ok m) (hT : TabOK (tbl m)) : ∀ n, n + 1 < 79 → tW (tbl m) (n + 1) = tW (tbl m) n → (cfgM m hO).fresh 4 (n + 1) = false := by
  intro n
  induction n with
  | zero =>
    intro hn ht
    rw [Pipeline.Cfg.fresh_succ _ _ 0 (by show 0 < 79; omega)]
    have hid : (cfgM m hO).idle 4 ((cfgM m hO).grid.coords ⟨0, by show 0 < 79; omega⟩) = false := by
      rw [← Bool.not_eq_true, idle4 m hO hT]; have := hT.tot_pos; show ¬ (nW (tbl m)).toNat ≤ 0; omega
    rw [hid, Bool.false_and, Bool.or_false]
    unfold Pipeline.Window.flush
    have e : ∀ h : 0 + 1 < 79, ((cfgM m hO).win 4).index ⟨0 + 1, h⟩ = ((cfgM m hO).win 4).index ⟨0, by show 0 < 79; omega⟩ := fun h => by
      rw [index4, index4]; exact congrArg (fun w : BitVec 32 => (![w.toNat, 0] : Fin 2 → ℕ)) ht
    simp only [Bool.and_eq_false_iff, Bool.or_eq_false_iff, decide_eq_false_iff_not]
    refine .inr ⟨by show ¬ 0 + 1 = 79; omega, ?_⟩
    rintro ⟨h, hne⟩
    exact hne (e h)
  | succ n ih =>
    intro hn ht
    rw [Pipeline.Cfg.fresh_succ _ _ (n + 1) (by show n + 1 < 79; omega)]
    have hfl : ((cfgM m hO).win 4).flush ⟨n + 1, by show n + 1 < 79; omega⟩ = false := by
      unfold Pipeline.Window.flush
      have e : ∀ h : n + 1 + 1 < 79, ((cfgM m hO).win 4).index ⟨n + 1 + 1, h⟩ = ((cfgM m hO).win 4).index ⟨n + 1, by show n + 1 < 79; omega⟩ := fun h => by
        rw [index4, index4]; exact congrArg (fun w : BitVec 32 => (![w.toNat, 0] : Fin 2 → ℕ)) ht
      simp only [Bool.and_eq_false_iff, Bool.or_eq_false_iff, decide_eq_false_iff_not]
      refine .inr ⟨by show ¬ n + 1 + 1 = 79; omega, ?_⟩
      rintro ⟨h, hne⟩
      exact hne (e h)
    rw [hfl, Bool.false_or]
    by_cases hi : (cfgM m hO).idle 4 ((cfgM m hO).grid.coords ⟨n + 1, by show n + 1 < 79; omega⟩) = true
    · have hle := (idle4 m hO hT _).mp hi
      rw [ih (by omega) (hT.stay (n + 1) (by omega) (by omega) hle), Bool.and_false]
    · rw [Bool.not_eq_true] at hi; rw [hi, Bool.false_and]

/-- What the body finds in the output's block, at its shape: anything, or what the point before left. -/
def found (hO : Ok m) (c : Dev nD) (t : Fin (cfgM m hO).N) (d : Vec F S256x2816 .bf16) : Vec F S256x2816 .bf16 := (dats m hO 0 c).before 4 t d

theorem found_eq (hO : Ok m) (hT : TabOK (tbl m)) (c : Dev nD) (t : Fin (cfgM m hO).N) (d : Vec F S256x2816 .bf16) :
    found m hO c t d = if (cfgM m hO).fresh 4 t.val then d else outs m hO c (t.val - 1) := by
  refine ((dats m hO 0 c).before_out_traj 4 rfl (fun _ _ => rfl) (fun t h0 hi _ => ?_) t.val t rfl d).trans ?_
  · refine (after0_4 m hO c t).trans (Eq.trans ?_ (after0_4 m hO c _).symm)
    obtain ⟨tv, htv⟩ := t
    obtain ⟨n, rfl⟩ : ∃ n, tv = n + 1 := ⟨tv - 1, by simp only at h0; omega⟩
    exact (outs_succ m hO c n htv).trans (stepAt_idle m hT hO c _ ((idle4 m hO hT _).mp hi) _)
  · rfl

/-- One visit over what the body finds is what the output's block holds after the point, whatever it found where it was
    to be overwritten. -/
theorem stepAt_found (hO : Ok m) (hT : TabOK (tbl m)) (c : Dev nD) (t : Fin (cfgM m hO).N) (d : Vec F S256x2816 .bf16) :
    stepAt m hO c t (found m hO c t d) = outs m hO c t.val := by
  obtain ⟨tv, htv⟩ := t
  cases tv with
  | zero => exact (stepAt_first m hT hO c ⟨0, htv⟩ hT.tot_pos (.inl rfl) _).trans (outs_zero m hO c).symm
  | succ n =>
    refine Eq.trans ?_ (outs_succ m hO c n htv).symm
    by_cases ht : tW (tbl m) (n + 1) = tW (tbl m) n
    · refine congrArg (stepAt m hO c ⟨n + 1, htv⟩) ((found_eq m hO hT c _ d).trans ?_)
      exact if_neg (by rw [not_fresh m hO hT n htv ht]; decide)
    · have hlt : n + 1 < (nW (tbl m)).toNat := by
        by_contra hge
        exact ht (hT.stay (n + 1) (by omega) htv (by omega))
      exact (stepAt_first m hT hO c ⟨n + 1, htv⟩ hlt (.inr fun h => ht h.symm) _).trans (stepAt_first m hT hO c ⟨n + 1, htv⟩ hlt (.inr fun h => ht h.symm) _).symm

/-! ## The body obligation, at a generic point -/

/-- What the output's buffer must hold when the body returns: its contents after the point — or, past the last visit where
    nothing is written back, what was found. -/
def leaves4 (hO : Ok m) (c : Dev nD) (t : Fin (cfgM m hO).N) : sProp 𝕄 :=
  match (cfgM m hO).idle 4 ((cfgM m hO).grid.coords t) with
  | true =>
    match ((cfgM m hO).win 4).flush t with
    | false => iprop(∃ d, owns (c : Thread nD τ) (ms0_4 m hO t) fullShare ((dats m hO 0 c).before 4 t d))
    | true => owns (c : Thread nD τ) (ms0_4 m hO t) fullShare ((dats m hO 0 c).after 4 t)
  | false => owns (c : Thread nD τ) (ms0_4 m hO t) fullShare ((dats m hO 0 c).after 4 t)

theorem leaves4_intro (hO : Ok m) (hT : TabOK (tbl m)) (c : Dev nD) (t : Fin (cfgM m hO).N) (d : Vec F S256x2816 .bf16) :
    owns (c : Thread nD τ) (ms0_4 m hO t) fullShare (stepAt m hO c t (found m hO c t d)) ⊢ (leaves4 m hO c t : sProp 𝕄) := by
  have hlive : owns (c : Thread nD τ) (ms0_4 m hO t) fullShare (stepAt m hO c t (found m hO c t d)) ⊢ (owns (c : Thread nD τ) (ms0_4 m hO t) fullShare ((dats m hO 0 c).after 4 t) : sProp 𝕄) := by
    rw [show stepAt m hO c t (found m hO c t d) = (dats m hO 0 c).after 4 t from (stepAt_found m hO hT c t d).trans (after0_4 m hO c t).symm]
  unfold leaves4
  cases hi : (cfgM m hO).idle 4 ((cfgM m hO).grid.coords t)
  · exact hlive
  · cases ((cfgM m hO).win 4).flush t
    · rw [show stepAt m hO c t (found m hO c t d) = (dats m hO 0 c).before 4 t d from stepAt_idle m hT hO c t ((idle4 m hO hT t).mp hi) _]
      iintro H; iexists d; iexact H
    · exact hlive

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ leaves4 m hO c t)

/-- The body's assumption on the group word, from the group being in range. -/
theorem chk_of_tab (hT : TabOK (tbl m)) (t : Fin grid0.N) : k0_chk1 (grid0.coords t) (gW (tbl m) t.val) (nW (tbl m)) := fun _ a => by
  have := hT.group_lt t.val t.isLt
  fin_cases a
  show (gW (tbl m) t.val).toNat + 1 ≤ 16; omega

set_option maxHeartbeats 1000000 in
/-- The body at any point: the inputs' memrefs hold their blocks, the output's what `before0_4` says; the run applies; the
    invariant passes through, the tables' halves read and handed back. -/
theorem sound_body (hO : Ok m) (hT : TabOK (tbl m)) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  have ho1 : k0_off1 (grid0.coords t) = ![t.val] := (off1_eq _).trans (by rw [coord_val])
  have ho3 : k0_off3 (grid0.coords t) = ![t.val - 1] := (off3_eq _).trans (by rw [coord_val])
  have hlt : t.val < 79 := t.isLt
  iintro ⟨⟨HΦ, ⟨HT0, HT1, HT2, HT3, HT4⟩⟩, Ho, ⟨%d0, H0⟩, ⟨%d1, H1⟩, ⟨%d2, H2⟩, ⟨%d3, H3⟩, ⟨%d4, H4⟩⟩
  iapply ((body_run c (grid0.coords t) _ _ _ _ _ _ _ _ _ _ (xB m hO c t) (xsB m hO c t) (wB m hO c t) (wsB m hO c t) (found m hO c t d4) (tbl m 0) (tbl m 1) (tbl m 2) (tbl m 3) (tbl m 4)
    (gW (tbl m) t.val) (tW (tbl m) t.val) (nW (tbl m)) (sW (tbl m) (gW (tbl m) t.val).toNat) (eW (tbl m) (gW (tbl m) t.val).toNat) (tW (tbl m) (t.val - 1))
    (fun h h' => rd0 (tbl m) c t.val hlt _ ho1 h h') (fun h h' => rd1 (tbl m) c t.val hlt _ ho1 h h') (fun h h' => rd4 (tbl m) c h h')
    (fun h h' => rd2 (tbl m) c _ _ (off2_eq _) h h') (fun h h' => rd3 (tbl m) c _ _ (off2_eq _) h h')
    (fun h h' => rd1 (tbl m) c (t.val - 1) (by omega) _ ho3 h h') (chk_of_tab m hT t)) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HT4]; · iexact HT4
  iintro ⟨H0, H1, H2, H3, H4, HT0, HT1, HT2, HT3, HT4⟩
  isplitl [HΦ HT0 HT1 HT2 HT3 HT4]
  · isplitl [HΦ]
    · iexact HΦ
    isplitl [HT0]; · iexact HT0
    isplitl [HT1]; · iexact HT1
    isplitl [HT2]; · iexact HT2
    isplitl [HT3]; · iexact HT3
    iexact HT4
  isplitl [Ho]; · iexact Ho
  isplitl [H0]; · iexact H0
  isplitl [H1]; · iexact H1
  isplitl [H2]; · iexact H2
  isplitl [H3]; · iexact H3
  iapply (leaves4_intro m hO hT c t d4)
  iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (hT : TabOK (tbl m)) (c : Dev nD) : BodyObligation (dats (F := F) m hO 0 c) (defs₀ (F := F)) Variants.none () Set.univ := fun t => by
  rw [bigSep_W0, bigSep_W0, defs₀_row m hO]
  exact triple_restated (sound_body m hO hT c t) rfl .rfl fun _ => .rfl

/-! ## The run and the frame -/

set_option maxHeartbeats 1000000 in
-- the launch theorem's implicit arguments are found by unifying its conclusion with this one, which takes unfolding plain
-- definitions in a metavariable's type
set_option backward.isDefEq.respectTransparency.types false in
/-- The launch: every weakly fair execution of @main terminates with every array of the pipeline at the library's `arrAt` — an
    input's as launched, the output's overwritten by each block written back —, every other buffer as the region found it,
    and every semaphore counter at zero. -/
theorem run_main (hO : Ok m) (hT : TabOK (tbl m)) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO hT c).loose) (hshare := fun c => (dats m hO 0 c).share_full fun _ => rfl)
    (howed := fun _ _ => rfl) (V := V m) (hmain := hmain m Variants.none) (hA := A_eq m hO) (hpf := V_pre m) (hΦ := fun _ _ => rfl)

/-- What the launch says of the arguments: an input window's array is never written; the other arguments bypass the region. -/
theorem args_of (hO : Ok m) (r : PUnit × MemSt nD τ sig (Elt F)) (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine ⟨?_, ?_, ?_, ?_, ?_⟩
  · exact (((h c).1 0).trans (((dats m hO 0 c).arrAt_in 0 rfl _).trans (A_eq m hO c 0))).trans (V_arg m c main_arg0 (by decide))
  · exact (((h c).1 1).trans (((dats m hO 0 c).arrAt_in 1 rfl _).trans (A_eq m hO c 1))).trans (V_arg m c main_arg1 (by decide))
  · exact ((h c).2 main_arg2 (by decide : main_arg2 ∈ Pipeline.restRefs sig spec0)).trans (V_arg m c main_arg2 (by decide))
  · exact (((h c).1 2).trans (((dats m hO 0 c).arrAt_in 2 rfl _).trans (A_eq m hO c 2))).trans (V_arg m c main_arg3 (by decide))
  · exact ((h c).2 main_arg4 (by decide : main_arg4 ∈ Pipeline.restRefs sig spec0)).trans (V_arg m c main_arg4 (by decide))

/-- The frame: every weakly fair execution terminates, the argument arrays unchanged and every counter at zero. -/
theorem frame (hO : Ok m) (hT : TabOK (tbl m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_of m hO r h.1, h.2⟩) (run_main m ρ hO hT)

end Cert.Kernel.Run

end
-- ==== Proof.Plan.lean ====
/- The visits, over the naturals. `gs k` is the number of rows of group `k`; the groups lie one after the other, so group
   `k` holds the rows `start k ≤ r < start (k + 1)`. Tiles are 256 rows. Every nonempty group visits, in order, each tile
   it has a row in; `visits k` counts those. This module proves what the kernel's run needs of the sequence of visits:
   the tile climbs from 0 to 63 in steps of at most one, two visits of one tile belong to successive groups, and the last
   visit of a tile belongs to a group that reaches the tile's end. -/
module

public import Mathlib.Order.Monotone.Basic
public import Mathlib.Data.Nat.Count
public import Mathlib.Tactic.Linarith

@[expose] public section

namespace Plan

/-- The sum of the first `k` values of `f`. -/
def pre (f : ℕ → ℕ) (k : ℕ) : ℕ := ((List.range k).map f).sum

theorem pre_zero (f : ℕ → ℕ) : pre f 0 = 0 := rfl

theorem pre_succ (f : ℕ → ℕ) (k : ℕ) : pre f (k + 1) = pre f k + f k := by
  simp [pre, List.range_succ]

theorem pre_mono (f : ℕ → ℕ) : Monotone (pre f) :=
  monotone_nat_of_le_succ fun k => by rw [pre_succ]; omega

/-- Where a running sum does not grow, its terms are zero. -/
theorem term_zero {f : ℕ → ℕ} {a b k : ℕ} (h : pre f b ≤ pre f a) (ha : a ≤ k) (hb : k < b) : f k = 0 := by
  have h1 := pre_mono f ha
  have h2 : pre f (k + 1) ≤ pre f b := pre_mono f hb
  rw [pre_succ] at h2
  omega

/-- Where the terms are zero, a running sum does not grow. -/
theorem pre_const {f : ℕ → ℕ} {a b : ℕ} (hab : a ≤ b) (h : ∀ k, a ≤ k → k < b → f k = 0) : pre f b = pre f a := by
  induction b, hab using Nat.le_induction with
  | base => rfl
  | succ b hb ih =>
    rw [pre_succ, h b hb (Nat.lt_succ_self b), ih fun k h1 h2 => h k h1 (by omega)]
    omega

/-- How many running sums (each taken through its own term) are at most `v`: the index of the term that `v` falls in. -/
theorem count_spec (f : ℕ → ℕ) (v N : ℕ) (hv : v < pre f (N + 1)) :
    ∃ g, g ≤ N ∧ Nat.count (fun k => pre f (k + 1) ≤ v) (N + 1) = g ∧ pre f g ≤ v ∧ v < pre f (g + 1) := by
  induction N with
  | zero =>
    refine ⟨0, le_refl _, ?_, by rw [pre_zero]; omega, hv⟩
    rw [Nat.count_succ, Nat.count_zero, if_neg (by omega)]
  | succ N ih =>
    by_cases h : v < pre f (N + 1)
    · obtain ⟨g, h1, h2, h3, h4⟩ := ih h
      refine ⟨g, by omega, ?_, h3, h4⟩
      rw [Nat.count_succ, h2, if_neg (by omega), Nat.add_zero]
    · refine ⟨N + 1, le_refl _, ?_, by omega, hv⟩
      rw [Nat.count_succ, if_neg (by omega), Nat.add_zero]
      refine Nat.count_iff_forall.mpr fun k hk => ?_
      have := pre_mono f (show k + 1 ≤ N + 1 by omega)
      show pre f (k + 1) ≤ v
      omega

/-- Only one term of a running sum holds a given place. -/
theorem term_unique {f : ℕ → ℕ} {v a b : ℕ} (ha : pre f a ≤ v) (ha' : v < pre f (a + 1)) (hb : pre f b ≤ v) (hb' : v < pre f (b + 1)) :
    a = b := by
  rcases Nat.lt_trichotomy a b with h | h | h
  · have := pre_mono f (show a + 1 ≤ b from h); omega
  · exact h
  · have := pre_mono f (show b + 1 ≤ a from h); omega

variable (gs : ℕ → ℕ)

/-- How many tiles group `k` visits. -/
def visits (k : ℕ) : ℕ := if 0 < gs k then (pre gs (k + 1) - 1) / 256 - pre gs k / 256 + 1 else 0

/-- How many visits there are. -/
def total : ℕ := pre (visits gs) 16

/-- The visit made at grid point `n`: the points past the last visit repeat it. -/
def visit (n : ℕ) : ℕ := min n (total gs - 1)

/-- The group of the visit at point `n`. -/
def group (n : ℕ) : ℕ := Nat.count (fun k => pre (visits gs) (k + 1) ≤ visit gs n) 16

/-- The tile of the visit at point `n`. -/
def tile (n : ℕ) : ℕ := pre gs (group gs n) / 256 + visit gs n - pre (visits gs) (group gs n)

theorem visits_eq_zero {k : ℕ} : visits gs k = 0 ↔ gs k = 0 := by
  unfold visits; split <;> omega

/-- At most one visit more than tiles touched for every group before. -/
theorem pre_visits_le (k : ℕ) : pre gs (k + 1) = 0 ∧ pre (visits gs) (k + 1) = 0
    ∨ 0 < pre gs (k + 1) ∧ pre (visits gs) (k + 1) ≤ (pre gs (k + 1) - 1) / 256 + 1 + k := by
  induction k with
  | zero =>
    rw [pre_succ, pre_succ, pre_zero, pre_zero]
    unfold visits
    rw [pre_succ, pre_zero]
    split <;> omega
  | succ k ih =>
    rw [pre_succ gs (k + 1), pre_succ _ (k + 1)]
    have hv : visits gs (k + 1) = if 0 < gs (k + 1) then (pre gs (k + 1) + gs (k + 1) - 1) / 256 - pre gs (k + 1) / 256 + 1 else 0 := by
      unfold visits; rw [pre_succ gs (k + 1)]
    rw [hv]
    split <;> omega

section facts
variable (hsum : pre gs 16 = 16384)
include hsum

theorem total_le : total gs ≤ 79 := by
  have := pre_visits_le gs 15
  unfold total
  norm_num at this
  omega

theorem total_pos : 1 ≤ total gs := by
  by_contra h
  have h0 : total gs = 0 := by omega
  have : pre gs 16 = pre gs 0 := pre_const (Nat.zero_le _) fun k h1 h2 =>
    (visits_eq_zero gs).mp (term_zero (f := visits gs) (a := 0) (b := 16) (by unfold total at h0; omega) h1 h2)
  rw [hsum, pre_zero] at this
  omega

theorem visit_lt (n : ℕ) : visit gs n < total gs := by
  have := total_pos gs hsum
  unfold visit; omega

/-- The group of a visit holds it. -/
theorem group_spec (n : ℕ) : group gs n < 16 ∧ pre (visits gs) (group gs n) ≤ visit gs n ∧ visit gs n < pre (visits gs) (group gs n + 1) := by
  obtain ⟨g, h1, h2, h3, h4⟩ := count_spec (visits gs) (visit gs n) 15 (visit_lt gs hsum n)
  have : group gs n = g := h2
  rw [this]
  exact ⟨by omega, h3, h4⟩

theorem pre_le (k : ℕ) (hk : k ≤ 16) : pre gs k ≤ 16384 := hsum ▸ pre_mono gs hk

/-- The group of a visit is not empty, and the visit's tile is one the group has a row in. -/
theorem tile_spec (n : ℕ) : 0 < gs (group gs n)
    ∧ tile gs n + pre (visits gs) (group gs n) = pre gs (group gs n) / 256 + visit gs n
    ∧ tile gs n ≤ (pre gs (group gs n + 1) - 1) / 256 ∧ pre gs (group gs n) / 256 ≤ tile gs n := by
  obtain ⟨_, h2, h3⟩ := group_spec gs hsum n
  rw [pre_succ] at h3
  have hv : visits gs (group gs n) ≠ 0 := by omega
  have hg : 0 < gs (group gs n) := by
    by_contra h
    exact hv ((visits_eq_zero gs).mpr (by omega))
  have he : visits gs (group gs n) = (pre gs (group gs n + 1) - 1) / 256 - pre gs (group gs n) / 256 + 1 := if_pos hg
  have hm : pre gs (group gs n) ≤ pre gs (group gs n + 1) - 1 := by rw [pre_succ]; omega
  have hd := Nat.div_le_div_right (c := 256) hm
  unfold tile
  refine ⟨hg, ?_, ?_, ?_⟩ <;> omega

theorem tile_lt (n : ℕ) : tile gs n < 64 := by
  obtain ⟨_, _, h, _⟩ := tile_spec gs hsum n
  have := pre_le gs hsum (group gs n + 1) (group_spec gs hsum n).1
  omega

/-- Past the last visit nothing moves. -/
theorem stay (n : ℕ) (h1 : 1 ≤ n) (h : total gs ≤ n) : tile gs n = tile gs (n - 1) := by
  have hv : visit gs n = visit gs (n - 1) := by unfold visit; omega
  have hg : group gs n = group gs (n - 1) := by unfold group; rw [hv]
  unfold tile; rw [hg, hv]

/-- The first visit: tile 0, of the group that holds row 0. -/
theorem first : tile gs 0 = 0 ∧ pre gs (group gs 0) = 0 := by
  have hv : visit gs 0 = 0 := by unfold visit; omega
  obtain ⟨_, h2, h3⟩ := group_spec gs hsum 0
  rw [hv] at h2
  have h0 : pre gs (group gs 0) = pre gs 0 := pre_const (Nat.zero_le _) fun k ha hb =>
    (visits_eq_zero gs).mp (term_zero (f := visits gs) (a := 0) (b := group gs 0) (by omega) ha hb)
  rw [pre_zero] at h0
  refine ⟨?_, h0⟩
  unfold tile
  rw [h0, hv]; omega

/-- One visit to the next: the same group a tile further on, or the next nonempty group from where the last one ended. -/
theorem step (n : ℕ) (hn : n + 1 < total gs) :
    (group gs (n + 1) = group gs n ∧ tile gs (n + 1) = tile gs n + 1 ∧ (tile gs n + 1) * 256 ≤ pre gs (group gs n + 1))
    ∨ (pre gs (group gs (n + 1)) = pre gs (group gs n + 1) ∧ tile gs n = (pre gs (group gs n + 1) - 1) / 256
        ∧ tile gs (n + 1) = pre gs (group gs n + 1) / 256) := by
  have hv : visit gs n = n := by unfold visit; omega
  have hv' : visit gs (n + 1) = n + 1 := by unfold visit; omega
  obtain ⟨_, a2, a3⟩ := group_spec gs hsum n
  obtain ⟨_, b2, b3⟩ := group_spec gs hsum (n + 1)
  obtain ⟨ag, at', al, af⟩ := tile_spec gs hsum n
  obtain ⟨bg, bt, bl, bf⟩ := tile_spec gs hsum (n + 1)
  have he : visits gs (group gs n) = (pre gs (group gs n + 1) - 1) / 256 - pre gs (group gs n) / 256 + 1 := if_pos ag
  have hs := pre_succ (visits gs) (group gs n)
  rw [hv] at a2 a3 at'
  rw [hv'] at b2 b3 bt
  by_cases h : n + 1 < pre (visits gs) (group gs n + 1)
  · left
    have hg : group gs (n + 1) = group gs n := term_unique (f := visits gs) (v := n + 1) b2 b3 (by omega) h
    rw [hg] at bt bl
    refine ⟨hg, by omega, by omega⟩
  · right
    have hlt : group gs n + 1 ≤ group gs (n + 1) := by
      by_contra hc
      have := pre_mono (visits gs) (show group gs (n + 1) + 1 ≤ group gs n + 1 by omega)
      omega
    have hz : ∀ k, group gs n + 1 ≤ k → k < group gs (n + 1) → gs k = 0 := fun k h1 h2 =>
      (visits_eq_zero gs).mp (term_zero (f := visits gs) (by omega) h1 h2)
    have hS := pre_const hlt hz
    have hW := pre_const (f := visits gs) hlt fun k h1 h2 => (visits_eq_zero gs).mpr (hz k h1 h2)
    rw [hS] at bt
    exact ⟨hS, by omega, by omega⟩

/-- The last visit's group reaches the last row. -/
theorem last : pre gs (group gs (total gs - 1) + 1) = 16384 := by
  have hv : visit gs (total gs - 1) = total gs - 1 := by unfold visit; omega
  have hp := total_pos gs hsum
  obtain ⟨a1, a2, a3⟩ := group_spec gs hsum (total gs - 1)
  rw [hv] at a3
  rw [← hsum]
  refine (pre_const (show group gs (total gs - 1) + 1 ≤ 16 by omega) fun k h1 h2 => (visits_eq_zero gs).mp ?_).symm
  refine term_zero (f := visits gs) (a := group gs (total gs - 1) + 1) (b := 16) ?_ h1 h2
  show total gs ≤ _
  omega

/-- From one visit to the next the tile stays or goes up by one. -/
theorem tile_step (n : ℕ) (hn : n + 1 < total gs) : tile gs (n + 1) = tile gs n ∨ tile gs (n + 1) = tile gs n + 1 := by
  rcases step gs hsum n hn with ⟨_, h, _⟩ | ⟨_, h1, h2⟩
  · exact Or.inr h
  · have := pre_succ gs (group gs n)
    have := (tile_spec gs hsum n).1
    omega

/-- A visit that is its tile's last one belongs to a group that reaches the tile's end. -/
theorem ends_tile (n : ℕ) (hn : n < total gs) (h : n + 1 = total gs ∨ tile gs (n + 1) ≠ tile gs n) :
    (tile gs n + 1) * 256 ≤ pre gs (group gs n + 1) := by
  by_cases hl : n + 1 = total gs
  · have e : n = total gs - 1 := by omega
    have := last gs hsum
    rw [← e] at this
    have := tile_lt gs hsum n
    omega
  · have hne := h.resolve_left hl
    rcases step gs hsum n (by omega) with ⟨_, _, h3⟩ | ⟨_, h1, h2⟩
    · exact h3
    · have := pre_succ gs (group gs n)
      have := (tile_spec gs hsum n).1
      omega

/-- Every tile has a last visit. -/
theorem exists_last (t : ℕ) (ht : t < 64) : ∃ n, n < total gs ∧ tile gs n = t ∧ (n + 1 = total gs ∨ tile gs (n + 1) ≠ tile gs n) := by
  have hp := total_pos gs hsum
  have hend : tile gs (total gs - 1) = 63 := by
    have h1 := ends_tile gs hsum (total gs - 1) (by omega) (Or.inl (by omega))
    have h2 := (tile_spec gs hsum (total gs - 1)).2.2.1
    have h3 := (tile_spec gs hsum (total gs - 1)).2.2.2
    have h4 := last gs hsum
    rw [h4] at h2
    by_contra hc
    have h5 := step gs hsum
    have h6 := tile_lt gs hsum (total gs - 1)
    rcases Nat.lt_or_ge (total gs - 1) 1 with h0 | h0
    · have h7 := first gs hsum
      have h8 : total gs - 1 = 0 := by omega
      obtain ⟨h9, h10, h11⟩ := group_spec gs hsum 0
      have he : visits gs (group gs 0) = (pre gs (group gs 0 + 1) - 1) / 256 - pre gs (group gs 0) / 256 + 1 := if_pos (tile_spec gs hsum 0).1
      rw [h8] at h4
      have hs := pre_succ (visits gs) (group gs 0)
      have hle : pre (visits gs) (group gs 0 + 1) ≤ total gs := pre_mono (visits gs) (show group gs 0 + 1 ≤ 16 from h9)
      rw [h4, h7.2] at he
      omega
    · have hv : visit gs (total gs - 1) = total gs - 1 := by unfold visit; omega
      obtain ⟨h9, h10, h11⟩ := group_spec gs hsum (total gs - 1)
      have hle : pre (visits gs) (group gs (total gs - 1) + 1) ≤ total gs := pre_mono (visits gs) (show group gs (total gs - 1) + 1 ≤ 16 from h9)
      have ht' := (tile_spec gs hsum (total gs - 1)).2.1
      have he : visits gs (group gs (total gs - 1)) = (pre gs (group gs (total gs - 1) + 1) - 1) / 256 - pre gs (group gs (total gs - 1)) / 256 + 1 :=
        if_pos (tile_spec gs hsum (total gs - 1)).1
      have hs := pre_succ (visits gs) (group gs (total gs - 1))
      rw [h4] at he
      omega
  -- the largest visit whose tile is at most `t`
  have key : ∀ n, n < total gs → t ≤ tile gs n → ∃ k, k < total gs ∧ tile gs k = t := by
    intro n
    induction n with
    | zero =>
      intro h0 h1
      have := (first gs hsum).1
      exact ⟨0, h0, by omega⟩
    | succ n ih =>
      intro h0 h1
      by_cases h2 : t ≤ tile gs n
      · exact ih (by omega) h2
      · have := tile_step gs hsum n h0
        exact ⟨n + 1, h0, by omega⟩
  obtain ⟨k, hk, hkt⟩ := key (total gs - 1) (by omega) (by omega)
  -- climb from there while the tile stays
  have climb : ∀ d k, k + d + 1 = total gs → tile gs k = t →
      ∃ n, n < total gs ∧ tile gs n = t ∧ (n + 1 = total gs ∨ tile gs (n + 1) ≠ tile gs n) := by
    intro d
    induction d with
    | zero => intro k h0 h1; exact ⟨k, by omega, h1, Or.inl (by omega)⟩
    | succ d ih =>
      intro k h0 h1
      by_cases h2 : tile gs (k + 1) = tile gs k
      · exact ih (k + 1) (by omega) (h2.trans h1)
      · exact ⟨k, by omega, h1, Or.inr h2⟩
  exact climb (total gs - 1 - k) k (by omega) hkt

end facts

end Plan

end
-- ==== Proof.Words.lean ====
/- The five tables of the launch, as the host computes them from the group sizes in 32-bit words, and what each holds:
   with sizes that add up to 16384 no word wraps, and the tables are the naturals of `Plan`. -/
module

public import proofs.«01_k».proof.Proof.Plan
public import Idealize.ShloMosaic.Lib.Routing.Words
public import Idealize.ShloMosaic.Lib.Routing.OpsSearch

@[expose] public section

noncomputable section

namespace Words

open Idealize.ShloMosaic Idealize.ShloMosaic.ValueIdx Idealize.ShloMosaic.Routing Idealize.ShloMosaic.WordCmp

/-! ## The host's lines -/

/-- A scalar word repeated over the 16 groups. -/
def rep (v : IVec shape0 32) : IVec (shape1 16) 32 := broadcastInDim (shape1 16) ![] (by decide) v

/-- The running sum over the 16 groups. -/
def runSum (x : IVec (shape1 16) 32) : IVec (shape1 16) 32 :=
  Host.reduceWindow IntOp.addi ![16] ![1] ![15] ![0] x (broadcastInDim shape0 ![] (by decide) (constantI shape0 32 0#32)) (by decide) (by decide)

/-- Each group's quotient by 256, rounded down. -/
def quot (x : IVec (shape1 16) 32) : IVec (shape1 16) 32 :=
  select (andi (cmpi .ne (signi x) (rep (signi (constantI shape0 32 256#32))))
      (cmpi .ne (Host.remsi x (rep (constantI shape0 32 256#32))) (rep (constantI shape0 32 0#32))))
    (subi (Host.divsi x (rep (constantI shape0 32 256#32))) (rep (constantI shape0 32 1#32)))
    (Host.divsi x (rep (constantI shape0 32 256#32)))

/-- Where each group's rows end, and where they start. -/
def ends (a : IVec (shape1 16) 32) : IVec (shape1 16) 32 := runSum a
def starts (a : IVec (shape1 16) 32) : IVec (shape1 16) 32 := subi (ends a) a

/-- Each group's first tile, its last tile, and how many tiles it visits. -/
def firsts (a : IVec (shape1 16) 32) : IVec (shape1 16) 32 := quot (starts a)
def lasts (a : IVec (shape1 16) 32) : IVec (shape1 16) 32 := quot (subi (ends a) (rep (constantI shape0 32 1#32)))
def counts (a : IVec (shape1 16) 32) : IVec (shape1 16) 32 :=
  select (cmpi .sgt a (rep (constantI shape0 32 0#32))) (addi (subi (lasts a) (firsts a)) (rep (constantI shape0 32 1#32)))
    (rep (constantI shape0 32 0#32))

/-- The running visit counts, with the group's own visits and without. -/
def vends (a : IVec (shape1 16) 32) : IVec (shape1 16) 32 := runSum (counts a)
def vstarts (a : IVec (shape1 16) 32) : IVec (shape1 16) 32 := subi (vends a) (counts a)

/-- How many visits there are, as a scalar. -/
def tot (a : IVec (shape1 16) 32) : IVec shape0 32 :=
  shapeCast shape0 (extractStridedSlice (shape1 1) ![15] (vends a) (by decide)) (by decide)

/-- The visit of each of the 79 points. -/
def visits (a : IVec (shape1 16) 32) : IVec (shape1 79) 32 :=
  minsi (iotaInDim (shape1 79) 32 0) (broadcastInDim (shape1 79) ![] (by decide) (subi (tot a) (constantI shape0 32 1#32)))

/-- The group of each point: how many groups' visits are over. -/
def groups (a : IVec (shape1 16) 32) : IVec (shape1 79) 32 :=
  Host.reduce IntOp.addi
    (extui 32 (cmpi .sle
      (broadcastInDim (shape2 16 79) ![0, 1] (by decide) (broadcastInDim (shape2 16 1) ![0] (by decide) (vends a)))
      (broadcastInDim (shape2 16 79) ![0, 1] (by decide) (broadcastInDim (shape2 1 79) ![1] (by decide) (visits a)))) (by decide))
    (constantI shape0 32 0#32) (by decide : (shape2 16 79).ReducesTo [0] (shape1 79)) (by decide)

/-- The index column the groups make, negative ones counted from the end. -/
def column (g : IVec (shape1 79) 32) : IVec (shape2 79 1) 32 :=
  broadcastInDim (shape2 79 1) ![0] (by decide)
    (select (cmpi .slt g (broadcastInDim (shape1 79) ![] (by decide) (constantI shape0 32 0#32)))
      (addi g (broadcastInDim (shape1 79) ![] (by decide) (constantI shape0 32 16#32))) g)

/-- The dimensions of taking one of 16 entries at each point. -/
def takeDims : GatherDims (shape1 16) (shape2 79 1) (shape1 79) where
  offsetDims := []
  collapsedSliceDims := [0]
  operandBatchingDims := []
  startIndicesBatchingDims := []
  startIndexMap := [0]
  indexVectorDim := 1
  sliceSizes := ![1]
  wf := by decide

/-- The tile of each point. -/
def tiles (a : IVec (shape1 16) 32) : IVec (shape1 79) 32 :=
  subi (addi (Host.gather takeDims (firsts a) (column (groups a))) (visits a)) (Host.gather takeDims (vstarts a) (column (groups a)))

/-- The number of visits, as the one entry of a table. -/
def tots (a : IVec (shape1 16) 32) : IVec (shape1 1) 32 := shapeCast (shape1 1) (tot a) (by decide)

/-! ## What they hold -/

theorem rep_ap (v : IVec shape0 32) (k : Fin 16) : rep v (ix1 k) = v ix0 := bc0 _ _ _

theorem runSum_ap (x : IVec (shape1 16) 32) (f : ℕ → ℕ) (hx : ∀ k : Fin 16, x (ix1 k) = BitVec.ofNat 32 (f k.val)) (k : Fin 16) :
    runSum x (ix1 k) = BitVec.ofNat 32 (Plan.pre f (k.val + 1)) :=
  cumsum1 (by norm_num) x f hx _ (bc0 _ _ _) _ _ k

/-- A one-entry vector as a scalar, and a scalar as a one-entry vector. -/
theorem cast_scalar (x : IVec (shape1 1) 32) (h : (shape1 1).ShapeCasts shape0) : shapeCast shape0 x h ix0 = x (ix1 (0 : Fin 1)) :=
  congrArg x (funext fun d => match d with | ⟨0, _⟩ => Subsingleton.elim (α := Fin 1) _ _)
theorem cast_one (x : IVec shape0 32) (h : shape0.ShapeCasts (shape1 1)) : shapeCast (shape1 1) x h (ix1 (0 : Fin 1)) = x ix0 :=
  congrArg x (eq_ix0 _)

theorem quot_ap (x : IVec (shape1 16) 32) (k : Fin 16) {n : ℕ} (hx : x (ix1 k) = BitVec.ofNat 32 n) (hn : n < 2 ^ 31) :
    quot x (ix1 k) = BitVec.ofNat 32 (n / 256) := by
  unfold quot
  simp only [select_at, cmpi_at, andi_at, subi_ap, Host.remsi_apply, Host.divsi_apply, signi_apply, rep_ap, constantI_at, hx,
    remsi_word .host hn (show 0 < 256 by norm_num) (by norm_num), divsi_word .host hn (show 0 < 256 by norm_num) (by norm_num), msb_ofNat32 hn]
  rcases Nat.eq_zero_or_pos n with h | h
  · subst h
    rfl
  · rw [if_neg (ofNat32_ne_zero h (show n < 2 ^ 32 by omega))]
    simp only [Bool.false_eq_true, if_false]
    show Scalar.select (0#1 &&& _) _ _ = _
    rw [BitVec.zero_and]
    rfl

variable (a : IVec (shape1 16) 32) (gs : ℕ → ℕ) (ha : ∀ k : Fin 16, a (ix1 k) = BitVec.ofNat 32 (gs k.val))
  (hsum : Plan.pre gs 16 = 16384)
include ha

theorem ends_ap (k : Fin 16) : ends a (ix1 k) = BitVec.ofNat 32 (Plan.pre gs (k.val + 1)) := runSum_ap a gs ha k

theorem starts_ap (k : Fin 16) : starts a (ix1 k) = BitVec.ofNat 32 (Plan.pre gs k.val) := by
  unfold starts
  rw [subi_ap, ends_ap a gs ha, ha, ofNat32_sub (by rw [Plan.pre_succ]; omega), Plan.pre_succ, Nat.add_sub_cancel]

include hsum

theorem firsts_ap (k : Fin 16) : firsts a (ix1 k) = BitVec.ofNat 32 (Plan.pre gs k.val / 256) :=
  quot_ap _ k (starts_ap a gs ha k) (by have := Plan.pre_le gs hsum k.val (by omega); omega)

theorem counts_ap (k : Fin 16) : counts a (ix1 k) = BitVec.ofNat 32 (Plan.visits gs k.val) := by
  have h1 := Plan.pre_le gs hsum (k.val + 1) (by omega)
  have h2 := Plan.pre_succ gs k.val
  unfold counts
  rw [select_at, cmpi_at, rep_ap, constantI_at, addi_ap, subi_ap, rep_ap, constantI_at, ha]
  by_cases h : 0 < gs k.val
  · have e1 : lasts a (ix1 k) = BitVec.ofNat 32 ((Plan.pre gs (k.val + 1) - 1) / 256) := by
      refine quot_ap _ k ?_ (by omega)
      rw [subi_ap, ends_ap a gs ha, rep_ap, constantI_at, show (1#32 : BitVec 32) = BitVec.ofNat 32 1 from rfl, ofNat32_sub (by omega)]
    have hc : IntOp.cmpi .sgt (BitVec.ofNat 32 (gs k.val)) 0#32 = 1#1 := by
      show BitVec.ofBool ((BitVec.ofNat 32 0).slt (BitVec.ofNat 32 (gs k.val))) = 1#1
      rw [slt_ofNat32 (by norm_num) (by omega), decide_eq_true h]; rfl
    have hd := Nat.div_le_div_right (c := 256) (show Plan.pre gs k.val ≤ Plan.pre gs (k.val + 1) - 1 by omega)
    rw [hc, e1, firsts_ap a gs ha hsum, ofNat32_sub hd, show (1#32 : BitVec 32) = BitVec.ofNat 32 1 from rfl, ← BitVec.ofNat_add]
    unfold Plan.visits
    rw [if_pos h]
    rfl
  · have h0 : gs k.val = 0 := by omega
    rw [h0, (Plan.visits_eq_zero gs).mpr h0]
    rfl

theorem vends_ap (k : Fin 16) : vends a (ix1 k) = BitVec.ofNat 32 (Plan.pre (Plan.visits gs) (k.val + 1)) :=
  runSum_ap _ _ (counts_ap a gs ha hsum) k

theorem vstarts_ap (k : Fin 16) : vstarts a (ix1 k) = BitVec.ofNat 32 (Plan.pre (Plan.visits gs) k.val) := by
  unfold vstarts
  rw [subi_ap, vends_ap a gs ha hsum, counts_ap a gs ha hsum, ofNat32_sub (by rw [Plan.pre_succ]; omega), Plan.pre_succ, Nat.add_sub_cancel]

theorem tot_ap : tot a ix0 = BitVec.ofNat 32 (Plan.total gs) :=
  (cast_scalar _ _).trans ((slice1 15 (vends a) (by decide) (0 : Fin 1) (by decide)).trans (vends_ap a gs ha hsum ⟨15, by decide⟩))

theorem tots_ap : tots a (ix1 (0 : Fin 1)) = BitVec.ofNat 32 (Plan.total gs) := (cast_one _ _).trans (tot_ap a gs ha hsum)

theorem visits_ap (n : Fin 79) : visits a (ix1 n) = BitVec.ofNat 32 (Plan.visit gs n.val) := by
  have h1 := Plan.total_le gs hsum
  have h2 := Plan.total_pos gs hsum
  unfold visits
  show IntOp.minsi (BitVec.ofNat 32 n.val) (broadcastInDim (shape1 79) ![] _ (subi (tot a) (constantI shape0 32 1#32)) (ix1 n)) = _
  rw [bc0, subi_ap, tot_ap a gs ha hsum, constantI_at, show (1#32 : BitVec 32) = BitVec.ofNat 32 1 from rfl, ofNat32_sub (by omega)]
  unfold IntOp.minsi Plan.visit
  rw [slt_ofNat32 (by omega) (by omega)]
  by_cases h : n.val < Plan.total gs - 1
  · rw [decide_eq_true h, Nat.min_eq_left (by omega)]; rfl
  · rw [decide_eq_false h, Nat.min_eq_right (by omega)]; rfl

theorem groups_ap (n : Fin 79) : groups a (ix1 n) = BitVec.ofNat 32 (Plan.group gs n.val) := by
  have h1 := Plan.total_le gs hsum
  have h2 := Plan.visit_lt gs hsum n.val
  apply BitVec.eq_of_toNat_eq
  unfold groups
  refine (StableHlo.Predicate.toNat_reduce_count_rows (by norm_num) _ _ _ _ (ix1 n)).trans ?_
  have h3 := (Plan.group_spec gs hsum n.val).1
  rw [BitVec.toNat_ofNat, Nat.mod_eq_of_lt (by omega)]
  unfold Plan.group
  rw [← card_filter_fin 16]
  refine congrArg Finset.card (Finset.filter_congr fun k _ => ?_)
  rw [ij_eq_ix2, cmpi_at]
  show IntOp.cmpi .sle (broadcastInDim (shape2 16 79) ![0, 1] _ (broadcastInDim (shape2 16 1) ![0] _ (vends a)) (ix2 k n)) (broadcastInDim (shape2 16 79) ![0, 1] _ (broadcastInDim (shape2 1 79) ![1] _ (visits a)) (ix2 k n)) = 1#1 ↔ _
  have h4 : Plan.pre (Plan.visits gs) (k.val + 1) ≤ Plan.total gs := Plan.pre_mono _ (by omega)
  rw [bcRows, bcCols, vends_ap a gs ha hsum, visits_ap a gs ha hsum]
  show BitVec.ofBool ((BitVec.ofNat 32 _).sle (BitVec.ofNat 32 _)) = 1#1 ↔ _
  rw [sle_ofNat32 (a := Plan.pre (Plan.visits gs) (k.val + 1)) (b := Plan.visit gs n.val) (by omega) (by omega)]
  by_cases h : Plan.pre (Plan.visits gs) (k.val + 1) ≤ Plan.visit gs n.val
  · rw [decide_eq_true h]; exact ⟨fun _ => h, fun _ => rfl⟩
  · rw [decide_eq_false h]; exact ⟨fun e => absurd e (by decide), fun e => absurd e h⟩

theorem column_ap (n : Fin 79) : column (groups a) (ix2 n (0 : Fin 1)) = BitVec.ofNat 32 (Plan.group gs n.val) := by
  have h3 := (Plan.group_spec gs hsum n.val).1
  unfold column
  rw [bcCol, select_at, cmpi_at, bc0, constantI_at, groups_ap a gs ha hsum]
  have hc : IntOp.cmpi .slt (BitVec.ofNat 32 (Plan.group gs n.val)) 0#32 = 0#1 := by
    show BitVec.ofBool ((BitVec.ofNat 32 (Plan.group gs n.val)).slt (BitVec.ofNat 32 0)) = 0#1
    rw [slt_ofNat32 (by omega) (by norm_num)]; rfl
  rw [hc]
  rfl

theorem tiles_ap (n : Fin 79) : tiles a (ix1 n) = BitVec.ofNat 32 (Plan.tile gs n.val) := by
  obtain ⟨h1, h2, h3⟩ := Plan.group_spec gs hsum n.val
  unfold tiles
  rw [subi_ap, addi_ap, take_ap takeDims rfl rfl rfl rfl _ _ n h1 (by omega) (column_ap a gs ha hsum n),
    take_ap takeDims rfl rfl rfl rfl _ _ n h1 (by omega) (column_ap a gs ha hsum n), firsts_ap a gs ha hsum, vstarts_ap a gs ha hsum,
    visits_ap a gs ha hsum, ← BitVec.ofNat_add]
  exact ofNat32_sub (a := Plan.pre gs (Plan.group gs n.val) / 256 + Plan.visit gs n.val) (b := Plan.pre (Plan.visits gs) (Plan.group gs n.val)) (by omega)

end Words

end
-- ==== Proof.Fill.lean ====
/- The precondition in numbers: the group sizes are the words of naturals that add up to 16384. -/
module

public import proofs.«01_k».proof.Proof.Words
public import proofs.«01_k».proof.Pre_sizes_fill_rows
public import proofs.«01_k».proof.Proof.Gen.Pre_sizes_fill_rows

@[expose] public section

noncomputable section

namespace Fill

open Idealize.ShloMosaic Idealize.ShloMosaic.ValueIdx Idealize.ShloMosaic.Routing Idealize.ShloMosaic.WordCmp

/-- The naturals in the words of the group sizes (zero past the last group). -/
def nats (a : IVec (shape1 16) 32) (k : ℕ) : ℕ := if h : k < 16 then (a (ix1 ⟨k, h⟩)).toNat else 0

theorem nats_ap (a : IVec (shape1 16) 32) (k : Fin 16) : a (ix1 k) = BitVec.ofNat 32 (nats a k.val) := by
  unfold nats
  rw [dif_pos k.isLt, BitVec.ofNat_toNat, BitVec.setWidth_eq]

/-- What the precondition says of the sizes. -/
structure Fills (a : IVec (shape1 16) 32) : Prop where
  sum : Plan.pre (nats a) 16 = 16384

/-- A bit that is the conjunction of two is set when both are. -/
theorem and_bits {x y : BitVec 1} (h : IntOp.andi x y = 1#1) : x = 1#1 ∧ y = 1#1 := by
  revert x y; decide

/-- The bit of a true Boolean. -/
theorem of_bit {b : Bool} (h : BitVec.ofBool b = 1#1) : b = true := by
  revert b; decide

/-- A word between zero and 16384 as signed words go holds a natural at most 16384. -/
theorem le_of_between (w : BitVec 32) (h0 : IntOp.cmpi .sge w 0#32 = 1#1) (h1 : IntOp.cmpi .sle w 16384#32 = 1#1) : w.toNat ≤ 16384 := by
  have h0 : (0#32 : BitVec 32).sle w = true := of_bit h0
  have h1 : w.sle 16384#32 = true := of_bit h1
  rw [BitVec.sle_iff_toInt_le] at h0 h1
  have hc := BitVec.toInt_eq_toNat_cond w
  have e0 : (0#32 : BitVec 32).toInt = 0 := by decide
  have e1 : (16384#32 : BitVec 32).toInt = 16384 := by decide
  have := w.isLt
  split at hc <;> omega

/-- The precondition, decoded. -/
theorem of_pre {F : FTy → Type} [FloatOps F] (x0 : FVec F Cert.Pre_sizes_fill_rows.S16384x2816 .fp8e4m3) (x1 : FVec F Cert.Pre_sizes_fill_rows.S16384 .f32)
    (a : IVec Cert.Pre_sizes_fill_rows.S16 32) (x3 : FVec F Cert.Pre_sizes_fill_rows.S16x2816x2816 .fp8e4m3) (x4 : FVec F Cert.Pre_sizes_fill_rows.S16x2816 .f32)
    [Cert.Pre_sizes_fill_rows.Facts]
    (h : Cert.Pre_sizes_fill_rows.fn (F := F) x0 x1 a x3 x4 = fun _ => 1#1) : Fills a := by
  have hk : ∀ k : Fin 16, (a (ix1 k)).toNat ≤ 16384
      ∧ Host.reduce (s := shape1 16) (t := shape0) IntOp.addi a (constantI shape0 32 0#32) Cert.Pre_sizes_fill_rows.Facts.reducesTo_S16_S_d0 Cert.Pre_sizes_fill_rows.Facts.h_S_ ix0 = 16384#32 := by
    intro k
    have e := congrFun h (ix1 k)
    obtain ⟨e1, e2⟩ := and_bits e
    obtain ⟨e3, e4⟩ := and_bits e1
    refine ⟨le_of_between _ ?_ ?_, ?_⟩
    · exact (congrArg (IntOp.cmpi .sge (a (ix1 k))) (bc0 (s := shape1 16) _ (constantI shape0 32 0#32) (ix1 k))).symm.trans e3
    · exact (congrArg (IntOp.cmpi .sle (a (ix1 k))) (bc0 (s := shape1 16) _ (constantI shape0 32 16384#32) (ix1 k))).symm.trans e4
    · have e5 := (bc0 (s := shape1 16) _ _ (ix1 k)).symm.trans e2
      exact StableHlo.Predicate.cmpi_eq_iff.mp e5
  have hs := reduce_sum a (nats a) (nats_ap a) Cert.Pre_sizes_fill_rows.Facts.reducesTo_S16_S_d0 Cert.Pre_sizes_fill_rows.Facts.h_S_
  rw [(hk 0).2] at hs
  have hb : ∀ n, n ≤ 16 → Plan.pre (nats a) n ≤ n * 16384 := by
    intro n
    induction n with
    | zero => intro _; rw [Plan.pre_zero]
    | succ n ih =>
      intro hn
      have h1 := ih (by omega)
      have h2 := (hk ⟨n, by omega⟩).1
      rw [Plan.pre_succ]
      unfold nats
      rw [dif_pos (show n < 16 by omega)]
      unfold nats at h1
      omega
  have h16 := hb 16 (le_refl _)
  have ht := congrArg BitVec.toNat hs
  rw [BitVec.toNat_ofNat, BitVec.toNat_ofNat] at ht
  change 16384 % 2 ^ 32 = Plan.pre (nats a) 16 % 2 ^ 32 at ht
  exact ⟨by omega⟩

end Fill

end
-- ==== Proof.KernelRead.lean ====
/- The five tables of `Kernel`'s launch, read off the host lines: each is the one of `Words` at the group sizes the program is
   given. -/
module

public import proofs.«01_k».proof.Proof.KernelTab
public import proofs.«01_k».proof.Proof.Words
public import proofs.«01_k».proof.Proof.Fill
public import Idealize.ShloMosaic.Lib.StableHlo.RunRead

@[expose] public section

-- membership in a rectangle of production extents (`View.cover_of_tiled`): the elaborator's structural look
-- recurses once per coordinate of the long axes
set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The group sizes the program is given. -/
def sizes : IVec (Idealize.ShloMosaic.Routing.shape1 16) 32 := m (((0 : Dev nD) : Thread nD τ).loc main_arg2)

theorem V_ends : V m (0 : Dev nD) main_v0 = Words.ends (sizes m) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  simp -implicitDefEqProofs only [StableHlo.TRef.toBuf, StableHlo.TRef.ofBuf, cast_cast, cast_eq]
  rfl
theorem V_starts : V m (0 : Dev nD) main_v1 = Words.starts (sizes m) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  simp -implicitDefEqProofs only [StableHlo.TRef.toBuf, StableHlo.TRef.ofBuf, cast_cast, cast_eq]
  rfl
theorem V_tots : V m (0 : Dev nD) main_v37 = Words.tots (sizes m) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  simp -implicitDefEqProofs only [StableHlo.TRef.toBuf, StableHlo.TRef.ofBuf, cast_cast, cast_eq]
  rfl
theorem V_groups : V m (0 : Dev nD) main_v20 = Words.groups (sizes m) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  simp -implicitDefEqProofs only [StableHlo.TRef.toBuf, StableHlo.TRef.ofBuf, cast_cast, cast_eq]
  rfl
theorem V_tiles : V m (0 : Dev nD) main_v36 = Words.tiles (sizes m) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  simp -implicitDefEqProofs only [StableHlo.TRef.toBuf, StableHlo.TRef.ofBuf, cast_cast, cast_eq]
  rfl

/-! ## The tables' words, where the sizes fill the rows -/

open Idealize.ShloMosaic.ValueIdx

section words
/-- The naturals in the sizes. -/
abbrev gs : ℕ → ℕ := Fill.nats (sizes m)

theorem gW_eq (hF : Fill.Fills (sizes m)) (n : ℕ) (hn : n < 79) : gW (tbl m) n = BitVec.ofNat 32 (Plan.group (gs m) n) := by
  refine Eq.trans ?_ (Words.groups_ap (sizes m) (gs m) (Fill.nats_ap _) hF.sum ⟨n, hn⟩)
  rw [← V_groups]
  unfold gW Pipeline.Prefetch.Contents.atD
  rw [dif_pos (by intro a; fin_cases a; exact hn), tbl_eq]
  exact congrArg (V m (0 : Dev nD) main_v20) (funext fun a => Fin.ext (by fin_cases a; rfl))
theorem tW_eq (hF : Fill.Fills (sizes m)) (n : ℕ) (hn : n < 79) : tW (tbl m) n = BitVec.ofNat 32 (Plan.tile (gs m) n) := by
  refine Eq.trans ?_ (Words.tiles_ap (sizes m) (gs m) (Fill.nats_ap _) hF.sum ⟨n, hn⟩)
  rw [← V_tiles]
  unfold tW Pipeline.Prefetch.Contents.atD
  rw [dif_pos (by intro a; fin_cases a; exact hn), tbl_eq]
  exact congrArg (V m (0 : Dev nD) main_v36) (funext fun a => Fin.ext (by fin_cases a; rfl))
theorem sW_eq (g : ℕ) (hg : g < 16) : sW (tbl m) g = BitVec.ofNat 32 (Plan.pre (gs m) g) := by
  refine Eq.trans ?_ (Words.starts_ap (sizes m) (gs m) (Fill.nats_ap _) ⟨g, hg⟩)
  rw [← V_starts]
  unfold sW Pipeline.Prefetch.Contents.atD
  rw [dif_pos (by intro a; fin_cases a; exact hg), tbl_eq]
  exact congrArg (V m (0 : Dev nD) main_v1) (funext fun a => Fin.ext (by fin_cases a; rfl))
theorem eW_eq (g : ℕ) (hg : g < 16) : eW (tbl m) g = BitVec.ofNat 32 (Plan.pre (gs m) (g + 1)) := by
  refine Eq.trans ?_ (Words.ends_ap (sizes m) (gs m) (Fill.nats_ap _) ⟨g, hg⟩)
  rw [← V_ends]
  unfold eW Pipeline.Prefetch.Contents.atD
  rw [dif_pos (by intro a; fin_cases a; exact hg), tbl_eq]
  exact congrArg (V m (0 : Dev nD) main_v0) (funext fun a => Fin.ext (by fin_cases a; rfl))
theorem nW_eq (hF : Fill.Fills (sizes m)) : nW (tbl m) = BitVec.ofNat 32 (Plan.total (gs m)) := by
  refine Eq.trans ?_ (Words.tots_ap (sizes m) (gs m) (Fill.nats_ap _) hF.sum)
  rw [← V_tots]
  unfold nW Pipeline.Prefetch.Contents.atD
  rw [dif_pos (by intro a; fin_cases a; decide), tbl_eq]
  exact congrArg (V m (0 : Dev nD) main_v37) (funext fun a => Fin.ext (by fin_cases a; rfl))

theorem gN (hF : Fill.Fills (sizes m)) (n : ℕ) (hn : n < 79) : (gW (tbl m) n).toNat = Plan.group (gs m) n := by
  have := (Plan.group_spec (gs m) hF.sum n).1
  rw [gW_eq m hF n hn, BitVec.toNat_ofNat, Nat.mod_eq_of_lt (by omega)]
theorem tN (hF : Fill.Fills (sizes m)) (n : ℕ) (hn : n < 79) : (tW (tbl m) n).toNat = Plan.tile (gs m) n := by
  have := Plan.tile_lt (gs m) hF.sum n
  rw [tW_eq m hF n hn, BitVec.toNat_ofNat, Nat.mod_eq_of_lt (by omega)]
theorem nN (hF : Fill.Fills (sizes m)) : (nW (tbl m)).toNat = Plan.total (gs m) := by
  have := Plan.total_le (gs m) hF.sum
  rw [nW_eq m hF, BitVec.toNat_ofNat, Nat.mod_eq_of_lt (by omega)]

/-- The tables are as the launch needs them. -/
theorem tabOK (hF : Fill.Fills (sizes m)) : TabOK (tbl m) where
  tile_lt n hn := by rw [tN m hF n hn]; exact Plan.tile_lt (gs m) hF.sum n
  group_lt n hn := by rw [gN m hF n hn]; exact (Plan.group_spec (gs m) hF.sum n).1
  tot_pos := by rw [nN m hF]; exact Plan.total_pos (gs m) hF.sum
  tot_le := by rw [nN m hF]; exact Plan.total_le (gs m) hF.sum
  stay n h1 hn h := by
    rw [nN m hF] at h
    rw [tW_eq m hF n hn, tW_eq m hF (n - 1) (by omega), Plan.stay (gs m) hF.sum n h1 h]

/-- The pipeline's side condition holds of them. -/
theorem ok (hF : Fill.Fills (sizes m)) : Ok m := ok_of_tab _ (tabOK m hF)

end words

end Cert.Kernel.Run

end
-- ==== Proof.KernelIdealRuns.lean ====
/- The launch of `KernelIdeal`'s pallas_call: what the region finds when it is entered. The buffers after the host lines
   (`V`), @main up to the region (`hmain`), the five prefetched tables read off them (`tbl`), the pipeline at those
   tables (`cfgM`), each window's block at a point (`iblk`), the fact that an input's staging buffer holds its block at
   every point, and the body as the pipeline calls it (`bodyAt0`). -/
module

public import proofs.«01_k».proof.Proof.Gen.KernelIdeal.Launch
public import proofs.«01_k».proof.Proof.Gen.KernelIdeal.Skeleton
public import proofs.«01_k».proof.Proof.Gen.KernelIdeal
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- A host line before the region writes none of the five arguments, so the region finds each as launched. -/
theorem V_arg (c : Dev nD) (b : Ref sig .tc) (hb : b ∈ [main_arg0, main_arg1, main_arg2, main_arg3, main_arg4]) :
    V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.not_mem_nil, or_false] at hb
    repeat' apply And.intro
    all_goals refine StableHlo.devRef_ne_of_ne ?_
    all_goals rcases hb with rfl | rfl | rfl | rfl | rfl <;> decide))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 5) : V m c (pre0.ref j) = tbl m j := by
  obtain rfl : c = 0 := Subsingleton.elim _ _; rfl
/-- The tables' contents are the buffers' when the region is entered; nothing below looks inside them. -/
theorem tbl_eq (j : Fin 5) : tbl m j = V m (0 : Dev nD) (pre0.ref j) := rfl
attribute [irreducible] tbl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S79 .i32 := Memref.whole main_v20
abbrev htbM0_0 : tbM0_0.IsWhole := Memref.isWhole_whole _
abbrev tbM0_1 : Memref sig .tc .smem S79 .i32 := Memref.whole main_v36
abbrev htbM0_1 : tbM0_1.IsWhole := Memref.isWhole_whole _
abbrev tbM0_2 : Memref sig .tc .smem S16 .i32 := Memref.whole main_v1
abbrev htbM0_2 : tbM0_2.IsWhole := Memref.isWhole_whole _
abbrev tbM0_3 : Memref sig .tc .smem S16 .i32 := Memref.whole main_v0
abbrev htbM0_3 : tbM0_3.IsWhole := Memref.isWhole_whole _
abbrev tbM0_4 : Memref sig .tc .smem S1 .i32 := Memref.whole main_v37
abbrev htbM0_4 : tbM0_4.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x2816 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2816x2816 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2816 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x2816 .bf16 := spec0_4.stage ((cfgM m hO).slots t 4)
abbrev hs0_4 (hO : Ok m) (t : Fin (cfgM m hO).N) : (ms0_4 m hO t).IsWhole := hstage0_4 (((cfgM m hO).slots t 4).cast nbuf0_4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__body (grid0.coords t) (Memref.whole main_v20) (Memref.isWhole_whole _) (Memref.whole main_v36) (Memref.isWhole_whole _) (Memref.whole main_v1) (Memref.isWhole_whole _) (Memref.whole main_v0) (Memref.isWhole_whole _) (Memref.whole main_v37) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

end Cert.KernelIdeal.Run

end
-- ==== Proof.KernelIdealTab.lean ====
/- The words of `KernelIdeal`'s five prefetched tables: `gW`, `tW`, `sW`, `eW`, `nW` by position; the body's three conditions and
   the five index maps in them; the property of the tables the launch needs (`TabOK`) and the pipeline's side condition
   from it (`ok_of_tab`). -/
module

public import proofs.«01_k».proof.Proof.KernelIdealRuns
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables' words, by position -/

/-- The group of visit `n`. -/
def gW (pf : pre0.Contents (Elt F)) (n : ℕ) : BitVec 32 := pf.atD 0 ![n]
/-- The row tile of visit `n`. -/
def tW (pf : pre0.Contents (Elt F)) (n : ℕ) : BitVec 32 := pf.atD 1 ![n]
/-- The first row of group `g`. -/
def sW (pf : pre0.Contents (Elt F)) (g : ℕ) : BitVec 32 := pf.atD 2 ![g]
/-- The row past group `g`'s last. -/
def eW (pf : pre0.Contents (Elt F)) (g : ℕ) : BitVec 32 := pf.atD 3 ![g]
/-- How many visits there are. -/
def nW (pf : pre0.Contents (Elt F)) : BitVec 32 := pf.atD 4 ![0]

/-- What the launch needs of the tables: every tile and group named is in range, there is a visit, and past the last
    visit the tile does not move. -/
structure TabOK (pf : pre0.Contents (Elt F)) : Prop where
  tile_lt : ∀ n, n < 79 → (tW pf n).toNat < 64
  group_lt : ∀ n, n < 79 → (gW pf n).toNat < 16
  tot_pos : 1 ≤ (nW pf).toNat
  tot_le : (nW pf).toNat ≤ 79
  stay : ∀ n, 1 ≤ n → n < 79 → (nW pf).toNat ≤ n → tW pf n = tW pf (n - 1)

theorem coord_lt (i : grid0.Coords) : (i 0).val < 79 := (i 0).isLt
theorem coord_val : ∀ t : Fin grid0.N, ((grid0.coords t) 0).val = t.val := by decide

theorem off1_eq (i : grid0.Coords) : k0_off1 i = ![(i 0).val] := by
  have := coord_lt i
  unfold k0_off1; dsimp only [Scalar.indexCast]
  rw [BitVec.toNat_ofNat, Nat.mod_eq_of_lt (by omega)]
theorem off2_eq (g : BitVec 32) : k0_off2 g = ![g.toNat] := rfl
theorem off3_eq : ∀ i : grid0.Coords, k0_off3 i = ![(i 0).val - 1] := by
  have h : ∀ n : Fin 79, ![(Scalar.indexCast (Scalar.maxsi (Scalar.subi (BitVec.ofNat 32 n.val) 1#32) 0#32)).toNat] = ![n.val - 1] := by decide
  exact fun i => h (i 0)

/-- The guard of a visit: the point is before the visits' count. -/
theorem cond1_iff (i : grid0.Coords) (tot : BitVec 32) (h : tot.toNat ≤ 79) : k0_cond1 i tot = 1#1 ↔ (i 0).val < tot.toNat := by
  have := coord_lt i
  have e : (IntOp.cmpi .slt (BitVec.ofNat 32 (i 0).val) tot) = BitVec.ofBool (decide ((i 0).val < tot.toNat)) := by
    rw [WordCmp.cmpi_slt_of_lt (by rw [BitVec.toNat_ofNat, Nat.mod_eq_of_lt (by omega)]; omega) (by omega), BitVec.toNat_ofNat, Nat.mod_eq_of_lt (by omega)]
  unfold k0_cond1
  show (IntOp.cmpi .ne ((IntOp.cmpi .slt (BitVec.ofNat 32 (i 0).val) tot).setWidth 32) 0#32) = 1#1 ↔ _
  rw [e]
  by_cases hd : (i 0).val < tot.toNat
  · simp only [hd, decide_true]; decide
  · simp only [hd, decide_false]; decide

/-- The first-visit condition: the first point, or a tile other than the previous point's. -/
theorem cond2_iff (i : grid0.Coords) (tile prev : BitVec 32) : k0_cond2 i tile prev = 1#1 ↔ (i 0).val = 0 ∨ prev ≠ tile := by
  have := coord_lt i
  unfold k0_cond2
  show (IntOp.cmpi .ne ((IntOp.ori (IntOp.cmpi .eq (BitVec.ofNat 32 (i 0).val) 0#32) (IntOp.cmpi .ne prev tile)).setWidth 32) 0#32) = 1#1 ↔ _
  rw [WordCmp.cmpi_eq_eq, WordCmp.cmpi_ne_eq prev tile, WordCmp.ori_ofBool]
  have h0 : BitVec.ofNat 32 (i 0).val = 0#32 ↔ (i 0).val = 0 := by
    constructor
    · intro h
      have := congrArg BitVec.toNat h
      rw [BitVec.toNat_ofNat, Nat.mod_eq_of_lt (by omega)] at this
      simpa using this
    · intro h; rw [h]
  by_cases ha : (i 0).val = 0
  · simp only [h0, ha, decide_true, Bool.true_or, true_or, iff_true]; decide
  · by_cases hb : prev = tile
    · simp only [h0, ha, hb, decide_false, ne_eq, not_true_eq_false, Bool.or_false, or_false, iff_false]; decide
    · simp only [h0, ha, hb, decide_false, decide_true, ne_eq, not_false_eq_true, Bool.false_or, or_true, iff_true]; decide

/-- The third branch's condition is the negation of the second's. -/
theorem cond3_iff (i : grid0.Coords) (tile prev : BitVec 32) : k0_cond3 i tile prev = 1#1 ↔ ¬ k0_cond2 i tile prev = 1#1 := by
  unfold k0_cond3 k0_cond2
  dsimp only
  generalize Scalar.ori _ _ = b
  revert b; decide

/-! ## The words the index maps read, and the launch's side condition -/

theorem at0 (pf : pre0.Contents (Elt F)) (i : grid0.Coords) (off : Fin 1 → ℕ) (hoff : off = ![(i 0).val]) (hi : ∀ a, off a + S1.size a ≤ S79.size a) (h) :
    (pf.at 0 (Rect.unit (s := S79) off S1.size hi) h : BitVec 32) = gW pf (i 0).val := by
  subst hoff
  have := coord_lt i
  unfold gW Pipeline.Prefetch.Contents.atD
  rw [dif_pos (by intro a; fin_cases a; exact this)]
  exact congrArg (pf 0) (funext fun a => Fin.ext (by fin_cases a; rfl))
theorem at1 (pf : pre0.Contents (Elt F)) (i : grid0.Coords) (off : Fin 1 → ℕ) (hoff : off = ![(i 0).val]) (hi : ∀ a, off a + S1.size a ≤ S79.size a) (h) :
    (pf.at 1 (Rect.unit (s := S79) off S1.size hi) h : BitVec 32) = tW pf (i 0).val := by
  subst hoff
  have := coord_lt i
  unfold tW Pipeline.Prefetch.Contents.atD
  rw [dif_pos (by intro a; fin_cases a; exact this)]
  exact congrArg (pf 1) (funext fun a => Fin.ext (by fin_cases a; rfl))

theorem tr0 (pf : pre0.Contents (Elt F)) (i : grid0.Coords) : cc0_transform_0 k0_off1_inb numel1_S1 pf i = ![(tW pf (i 0).val).toNat, 0] := by
  exact congrArg (fun w : BitVec 32 => (![w.toNat, 0] : Fin 2 → ℕ)) (at1 pf i _ (off1_eq i) (k0_off1_inb i) numel1_S1)
theorem tr1 (pf : pre0.Contents (Elt F)) (i : grid0.Coords) : cc0_transform_1 k0_off1_inb numel1_S1 pf i = ![(tW pf (i 0).val).toNat] := by
  exact congrArg (fun w : BitVec 32 => (![w.toNat] : Fin 1 → ℕ)) (at1 pf i _ (off1_eq i) (k0_off1_inb i) numel1_S1)
theorem tr2 (pf : pre0.Contents (Elt F)) (i : grid0.Coords) : cc0_transform_2 k0_off1_inb numel1_S1 pf i = ![(gW pf (i 0).val).toNat, 0, 0] := by
  exact congrArg (fun w : BitVec 32 => (![w.toNat, 0, 0] : Fin 3 → ℕ)) (at0 pf i _ (off1_eq i) (k0_off1_inb i) numel1_S1)
theorem tr3 (pf : pre0.Contents (Elt F)) (i : grid0.Coords) : cc0_transform_3 k0_off1_inb numel1_S1 pf i = ![(gW pf (i 0).val).toNat, 0, 0] := by
  exact congrArg (fun w : BitVec 32 => (![w.toNat, 0, 0] : Fin 3 → ℕ)) (at0 pf i _ (off1_eq i) (k0_off1_inb i) numel1_S1)
theorem tr4 (pf : pre0.Contents (Elt F)) (i : grid0.Coords) : cc0_transform_4 k0_off1_inb numel1_S1 pf i = ![(tW pf (i 0).val).toNat, 0] := by
  exact congrArg (fun w : BitVec 32 => (![w.toNat, 0] : Fin 2 → ℕ)) (at1 pf i _ (off1_eq i) (k0_off1_inb i) numel1_S1)

/-- With every tile below 64 and every group below 16 each block lies inside its array. -/
theorem ok_of_tab (pf : pre0.Contents (Elt F)) (h : TabOK pf) : ok0 pf := by
  have ht : ∀ i : grid0.Coords, (tW pf (i 0).val).toNat < 64 := fun i => h.tile_lt _ (coord_lt i)
  have hg : ∀ i : grid0.Coords, (gW pf (i 0).val).toNat < 16 := fun i => h.group_lt _ (coord_lt i)
  refine ⟨fun i => ⟨?_, .inr (.inl (.inr ⟨by decide, rfl, .inl ⟨?_, ⟨64, rfl⟩⟩⟩))⟩, fun i => ⟨?_, .inl rfl⟩, fun i => ⟨?_, .inr (.inr ⟨by decide, rfl, ?_, rfl⟩)⟩, fun i => ⟨?_, .inl rfl⟩,
    fun i => ⟨?_, .inr (.inl (.inr ⟨by decide, rfl, .inl ⟨?_, ⟨128, rfl⟩⟩⟩))⟩⟩
  · rw [tr0]; have := ht i; intro a; fin_cases a
    · show ((tW pf (i 0).val).toNat + 1) * 256 ≤ 16384; omega
    · show (0 + 1) * 2816 ≤ 2816; omega
  · exact Dvd.dvd.mul_left (by decide : 4 ∣ 256) _
  · rw [tr1]; have := ht i; intro a; fin_cases a
    show ((tW pf (i 0).val).toNat + 1) * 256 ≤ 16384; omega
  · rw [tr2]; have := hg i; intro a; fin_cases a
    · show ((gW pf (i 0).val).toNat + 1) * 1 ≤ 16; omega
    · show (0 + 1) * 2816 ≤ 2816; omega
    · show (0 + 1) * 2816 ≤ 2816; omega
  · show cc0_transform_2 k0_off1_inb numel1_S1 pf i 1 * 2816 = 0
    rw [tr2]; rfl
  · rw [tr3]; have := hg i; intro a; fin_cases a
    · show ((gW pf (i 0).val).toNat + 1) * 1 ≤ 16; omega
    · show (0 + 1) * 1 ≤ 1; omega
    · show (0 + 1) * 2816 ≤ 2816; omega
  · rw [tr4]; have := ht i; intro a; fin_cases a
    · show ((tW pf (i 0).val).toNat + 1) * 256 ≤ 16384; omega
    · show (0 + 1) * 2816 ≤ 2816; omega
  · exact Dvd.dvd.mul_left (by decide : 2 ∣ 256) _

/-- A scalar load of a table reads the word at its offset. -/
theorem rd0 (pf : pre0.Contents (Elt F)) (c : Dev nD) (n : ℕ) (hn : n < 79) (off : Fin 1 → ℕ) (hoff : off = ![n]) (hi : ∀ a, off a + S1.size a ≤ S79.size a) (h : 0 < (Rect.unit (s := S79) off S1.size hi).shape.numel) :
    View.readAt (Elt F) tbM0_0.view (Rect.unit (s := S79) off S1.size hi).toLoadRect (pf 0) (Shape.Idx.first h) = gW pf n := by
  subst hoff
  unfold gW Pipeline.Prefetch.Contents.atD
  rw [dif_pos (by intro a; fin_cases a; exact hn)]
  exact congrArg (pf 0) (funext fun a => Fin.ext (by fin_cases a; rfl))
theorem rd1 (pf : pre0.Contents (Elt F)) (c : Dev nD) (n : ℕ) (hn : n < 79) (off : Fin 1 → ℕ) (hoff : off = ![n]) (hi : ∀ a, off a + S1.size a ≤ S79.size a) (h : 0 < (Rect.unit (s := S79) off S1.size hi).shape.numel) :
    View.readAt (Elt F) tbM0_1.view (Rect.unit (s := S79) off S1.size hi).toLoadRect (pf 1) (Shape.Idx.first h) = tW pf n := by
  subst hoff
  unfold tW Pipeline.Prefetch.Contents.atD
  rw [dif_pos (by intro a; fin_cases a; exact hn)]
  exact congrArg (pf 1) (funext fun a => Fin.ext (by fin_cases a; rfl))
theorem rd2 (pf : pre0.Contents (Elt F)) (c : Dev nD) (n : ℕ) (off : Fin 1 → ℕ) (hoff : off = ![n]) (hi : ∀ a, off a + S1.size a ≤ S16.size a) (h : 0 < (Rect.unit (s := S16) off S1.size hi).shape.numel) :
    View.readAt (Elt F) tbM0_2.view (Rect.unit (s := S16) off S1.size hi).toLoadRect (pf 2) (Shape.Idx.first h) = sW pf n := by
  subst hoff
  unfold sW Pipeline.Prefetch.Contents.atD
  rw [dif_pos (by intro a; fin_cases a; exact hi 0)]
  exact congrArg (pf 2) (funext fun a => Fin.ext (by fin_cases a; rfl))
theorem rd3 (pf : pre0.Contents (Elt F)) (c : Dev nD) (n : ℕ) (off : Fin 1 → ℕ) (hoff : off = ![n]) (hi : ∀ a, off a + S1.size a ≤ S16.size a) (h : 0 < (Rect.unit (s := S16) off S1.size hi).shape.numel) :
    View.readAt (Elt F) tbM0_3.view (Rect.unit (s := S16) off S1.size hi).toLoadRect (pf 3) (Shape.Idx.first h) = eW pf n := by
  subst hoff
  unfold eW Pipeline.Prefetch.Contents.atD
  rw [dif_pos (by intro a; fin_cases a; exact hi 0)]
  exact congrArg (pf 3) (funext fun a => Fin.ext (by fin_cases a; rfl))
theorem rd4 (pf : pre0.Contents (Elt F)) (c : Dev nD) (hi : ∀ a, (![0] : Fin 1 → ℕ) a + S1.size a ≤ S1.size a) (h : 0 < (Rect.unit (s := S1) ![0] S1.size hi).shape.numel) :
    View.readAt (Elt F) tbM0_4.view (Rect.unit (s := S1) ![0] S1.size hi).toLoadRect (pf 4) (Shape.Idx.first h) = nW pf := by
  unfold nW Pipeline.Prefetch.Contents.atD
  rw [dif_pos (by intro a; fin_cases a; exact hi 0)]
  exact congrArg (pf 4) (funext fun a => Fin.ext (by fin_cases a; rfl))

end Cert.KernelIdeal.Run

end
-- ==== Proof.KernelIdealBody.lean ====
/- One grid point of `KernelIdeal`'s body: `visit`, what it leaves in the output's block (from the block's earlier contents, the
   inputs' blocks and the tables' words), and `body_run`, the triple saying that it does. -/
module

public import proofs.«01_k».proof.Proof.KernelIdealTab
public import Idealize.ShloMosaic.Lib.VecWindow

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word a scalar load of a table reads: the element at its offset. -/
abbrev rd {c : Dev nD} {S : Shape} (M : Memref sig .tc .smem S .i32) (xt : TbBuf0 (F := F) c M) (r : Rect S) (h : 0 < r.shape.numel) : BitVec 32 :=
  View.readAt (Elt F) M.view r.toLoadRect xt (Shape.Idx.first h)

/-- What one visit leaves in the output's block: on a first visit to the tile the group's rows whole; on a later visit
    the group's own rows over what the block held; past the last visit, what it held. -/
def visit (i : grid0.Coords) (tile tot st en prev : BitVec 32) (x0 : Vec F S256x2816 .fp8e4m3) (x1 : Vec F S256 .f32)
    (x2 : Vec F S1x2816x2816 .fp8e4m3) (x3 : Vec F S1x1x2816 .f32) (d : Vec F S256x2816 .bf16) : Vec F S256x2816 .bf16 :=
  if k0_cond1 i tot = 1#1 then
    if k0_cond2 i tile prev = 1#1 then k0_pay1 x0 x2 x1 x3 else k0_pay2 tile x0 x2 x1 x3 st en d
  else d

section
variable (i : grid0.Coords) (tile tot st en prev : BitVec 32) (x0 : Vec F S256x2816 .fp8e4m3) (x1 : Vec F S256 .f32)
    (x2 : Vec F S1x2816x2816 .fp8e4m3) (x3 : Vec F S1x1x2816 .f32) (d : Vec F S256x2816 .bf16)

theorem visit_idle (h : ¬ k0_cond1 i tot = 1#1) : visit i tile tot st en prev x0 x1 x2 x3 d = d := if_neg h
theorem visit_first (h : k0_cond1 i tot = 1#1) (h2 : k0_cond2 i tile prev = 1#1) :
    visit i tile tot st en prev x0 x1 x2 x3 d = k0_pay1 x0 x2 x1 x3 := (if_pos h).trans (if_pos h2)
theorem visit_later (h : k0_cond1 i tot = 1#1) (h2 : ¬ k0_cond2 i tile prev = 1#1) :
    visit i tile tot st en prev x0 x1 x2 x3 d = k0_pay2 tile x0 x2 x1 x3 st en d := (if_pos h).trans (if_neg h2)

end

set_option maxHeartbeats 4000000 in
/-- The body on whole staging memrefs and the tables: with the words it reads named (`hg` …) and its assumption on the
    group word met (`hchk`), it leaves the inputs and the tables as they were and the output's block at `visit`. -/
theorem body_run (c : Dev nD) (i : grid0.Coords) (arg6 : Memref sig .tc .vmem S256x2816 .fp8e4m3) (harg6 : arg6.IsWhole) (arg7 : Memref sig .tc .vmem S256 .f32) (harg7 : arg7.IsWhole) (arg8 : Memref sig .tc .vmem S1x2816x2816 .fp8e4m3) (harg8 : arg8.IsWhole) (arg9 : Memref sig .tc .vmem S1x1x2816 .f32) (harg9 : arg9.IsWhole) (arg10 : Memref sig .tc .vmem S256x2816 .bf16) (harg10 : arg10.IsWhole)
    (x0 : Vec F S256x2816 .fp8e4m3) (x1 : Vec F S256 .f32) (x2 : Vec F S1x2816x2816 .fp8e4m3) (x3 : Vec F S1x1x2816 .f32) (d4 : Vec F S256x2816 .bf16)
    (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4)
    (g tile tot st en prev : BitVec 32)
    (hg : ∀ h h', rd tbM0_0 xt0 (Rect.unit (k0_off1 i) S1.size h) h' = g)
    (htile : ∀ h h', rd tbM0_1 xt1 (Rect.unit (k0_off1 i) S1.size h) h' = tile)
    (htot : ∀ h h', rd tbM0_4 xt4 (Rect.unit ![0] S1.size h) h' = tot)
    (hst : ∀ h h', rd tbM0_2 xt2 (Rect.unit (k0_off2 g) S1.size h) h' = st)
    (hen : ∀ h h', rd tbM0_3 xt3 (Rect.unit (k0_off2 g) S1.size h) h' = en)
    (hprev : ∀ h h', rd tbM0_1 xt1 (Rect.unit (k0_off3 i) S1.size h) h' = prev)
    (hchk : k0_chk1 i g tot) :
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare d4 ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare (visit i tile tot st en prev x0 x1 x2 x3 d4) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0__body i tbM0_0 htbM0_0 tbM0_1 htbM0_1 tbM0_2 htbM0_2 tbM0_3 htbM0_3 tbM0_4 htbM0_4 arg6 harg6 arg7 harg7 arg8 harg8 arg9 harg9 arg10 harg10) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, HT4, Hk⟩
    obtain rfl := harg6.eq_unread hf0; obtain rfl := harg7.eq_unread hf1; obtain rfl := harg8.eq_unread hf2; obtain rfl := harg9.eq_unread hf3; obtain rfl := harg10.eq_unread hf4
    sl_exec
    rw [show body_run.sl.r c i xt0 = g from hg _ _, show body_run.sl.r_1 c i xt1 = tile from htile _ _, show body_run.sl.r_2 c xt4 = tot from htot _ _]
    by_cases hc1 : k0_cond1 i tot = 1#1
    · sl_exec
      rw [show body_run.sl.r_5 c i xt1 = prev from hprev _ _]
      sl_step
      iapply Hk
      isplitl [H0]
      · iexists _; isplitr; · ipureintro; exact harg6.read_unread _
        iexact H0
      isplitl [H1]
      · iexists _; isplitr; · ipureintro; exact harg7.read_unread _
        iexact H1
      isplitl [H2]
      · iexists _; isplitr; · ipureintro; exact harg8.read_unread _
        iexact H2
      isplitl [H3]
      · iexists _; isplitr; · ipureintro; exact harg9.read_unread _
        iexact H3
      isplitl [H4]
      · iexists _; isplitr; swap; · iexact H4
        ipureintro
        unfold visit
        rw [if_pos hc1]
        have q0 : View.readAt (Elt F) arg6.view (Rect.unit ![0, 0] S256x2816.size inb_S256x2816_S256x2816_0_0).toLoadRect (harg6.unread x0) = x0 := (View.readAt_full _ _ _).trans hf0
        have q1 : View.readAt (Elt F) arg7.view (Rect.unit ![0] S256.size inb_S256_S256_0).toLoadRect (harg7.unread x1) = x1 := (View.readAt_full _ _ _).trans hf1
        have q2 : View.readAt (Elt F) arg8.view (Rect.unit ![0, 0, 0] S1x2816x2816.size inb_S1x2816x2816_S1x2816x2816_0_0_0).toLoadRect (harg8.unread x2) = x2 := (View.readAt_full _ _ _).trans hf2
        have q3 : View.readAt (Elt F) arg9.view (Rect.unit ![0, 0, 0] S1x1x2816.size inb_S1x1x2816_S1x1x2816_0_0_0).toLoadRect (harg9.unread x3) = x3 := (View.readAt_full _ _ _).trans hf3
        by_cases hc2 : k0_cond2 i tile prev = 1#1
        · have hc3 : ¬ k0_cond3 i tile prev = 1#1 := fun h => (cond3_iff i tile prev).mp h hc2
          rw [dif_neg hc3, dif_pos hc2, if_pos hc2, q0, q1, q2, q3]
          exact View.read_writes_full _ _ _ _ _
        · have hc3 : k0_cond3 i tile prev = 1#1 := (cond3_iff i tile prev).mpr hc2
          have e3 : body_run.sl.r_3 c i xt2 g tot hchk hc1 = st := hst _ _
          have e4 : body_run.sl.r_4 c i xt3 g tot hchk hc1 = en := hen _ _
          have e5 : body_run.sl.r_5 c i xt1 = prev := hprev _ _
          have q4 : body_run.sl.v46 c i arg6 harg6 arg7 harg7 arg8 harg8 arg9 harg9 arg10 harg10 x0 x1 x2 x3 d4 xt1 tile = d4 := by
            unfold body_run.sl.v46
            rw [e5, dif_neg hc2]
            exact (View.readAt_full _ _ _).trans hf4
          rw [dif_pos hc3, if_neg hc2, q0, q1, q2, q3, e3, e4, q4]
          exact View.read_writes_full _ _ _ _ _
      isplitl [HT0]; · iexact HT0
      isplitl [HT1]; · iexact HT1
      isplitl [HT2]; · iexact HT2
      isplitl [HT3]; · iexact HT3
      iexact HT4
    · sl_exec
      sl_step
      iapply Hk
      isplitl [H0]
      · iexists _; isplitr; · ipureintro; exact harg6.read_unread _
        iexact H0
      isplitl [H1]
      · iexists _; isplitr; · ipureintro; exact harg7.read_unread _
        iexact H1
      isplitl [H2]
      · iexists _; isplitr; · ipureintro; exact harg8.read_unread _
        iexact H2
      isplitl [H3]
      · iexists _; isplitr; · ipureintro; exact harg9.read_unread _
        iexact H3
      isplitl [H4]
      · iexists _; isplitr; swap; · iexact H4
        ipureintro
        unfold visit
        rw [if_neg hc1]; exact hf4
      isplitl [HT0]; · iexact HT0
      isplitl [HT1]; · iexact HT1
      isplitl [HT2]; · iexact HT2
      isplitl [HT3]; · iexact HT3
      iexact HT4

end Cert.KernelIdeal.Run

end
-- ==== Proof.KernelIdealFrame.lean ====
/- The frame of `KernelIdeal`. `outs`: what the output's block holds after each point — one visit over what it held, carried from
   point to point. The proof data (`dats`), the schedule facts (a visit that is not the tile's first finds what the point
   before left: `not_fresh`), the body obligation, the run (`run_main`: every array at the library's `arrAt`) and the
   frame. -/
module

public import proofs.«01_k».proof.Proof.KernelIdealBody
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output's block holds after each point -/

/-- The inputs' blocks at point `t`, at their shapes: the row tile of `x`, of `x_scales`, the group's weights and their scales. -/
def xB (hO : Ok m) (c : Dev nD) (t : Fin grid0.N) : Vec F S256x2816 .fp8e4m3 := iblk m hO c 0 t
def xsB (hO : Ok m) (c : Dev nD) (t : Fin grid0.N) : Vec F S256 .f32 := iblk m hO c 1 t
def wB (hO : Ok m) (c : Dev nD) (t : Fin grid0.N) : Vec F S1x2816x2816 .fp8e4m3 := iblk m hO c 2 t
def wsB (hO : Ok m) (c : Dev nD) (t : Fin grid0.N) : Vec F S1x1x2816 .f32 := iblk m hO c 3 t

/-- One visit over contents `d` of the output's block, at the words and the blocks of point `t`. -/
def stepAt (hO : Ok m) (c : Dev nD) (t : Fin grid0.N) (d : Vec F S256x2816 .bf16) : Vec F S256x2816 .bf16 :=
  visit (grid0.coords t) (tW (tbl m) t.val) (nW (tbl m)) (sW (tbl m) (gW (tbl m) t.val).toNat) (eW (tbl m) (gW (tbl m) t.val).toNat) (tW (tbl m) (t.val - 1))
    (xB m hO c t) (xsB m hO c t) (wB m hO c t) (wsB m hO c t) d

/-- The group's rows whole: the block after a first visit. -/
def yAt (hO : Ok m) (c : Dev nD) (t : Fin grid0.N) : Vec F S256x2816 .bf16 := k0_pay1 (xB m hO c t) (wB m hO c t) (xsB m hO c t) (wsB m hO c t)

/-- The output's block after point `n`. -/
def outs (hO : Ok m) (c : Dev nD) (n : ℕ) : Vec F S256x2816 .bf16 :=
  Nat.rec (motive := fun _ => Vec F S256x2816 .bf16) (yAt m hO c ⟨0, by decide⟩)
    (fun n d => if h : n + 1 < 79 then stepAt m hO c ⟨n + 1, h⟩ d else d) n

theorem outs_zero (hO : Ok m) (c : Dev nD) : outs m hO c 0 = yAt m hO c ⟨0, by decide⟩ := rfl
theorem outs_succ (hO : Ok m) (c : Dev nD) (n : ℕ) (h : n + 1 < 79) : outs m hO c (n + 1) = stepAt m hO c ⟨n + 1, h⟩ (outs m hO c n) :=
  dif_pos h

/-- Past the last visit a point leaves the block as it found it. -/
theorem stepAt_idle (hT : TabOK (tbl m)) (hO : Ok m) (c : Dev nD) (t : Fin grid0.N) (h : (nW (tbl m)).toNat ≤ t.val) (d : Vec F S256x2816 .bf16) :
    stepAt m hO c t d = d := by
  have e1 := cond1_iff (grid0.coords t) (nW (tbl m)) hT.tot_le
  rw [coord_val] at e1
  exact visit_idle _ _ _ _ _ _ _ _ _ _ _ (by rw [e1]; omega)

/-- A first visit to a tile leaves the group's rows whole, whatever was found. -/
theorem stepAt_first (hT : TabOK (tbl m)) (hO : Ok m) (c : Dev nD) (t : Fin grid0.N) (h : t.val < (nW (tbl m)).toNat)
    (hf : t.val = 0 ∨ tW (tbl m) (t.val - 1) ≠ tW (tbl m) t.val) (d : Vec F S256x2816 .bf16) : stepAt m hO c t d = yAt m hO c t := by
  have e1 := cond1_iff (grid0.coords t) (nW (tbl m)) hT.tot_le
  have e2 := cond2_iff (grid0.coords t) (tW (tbl m) t.val) (tW (tbl m) (t.val - 1))
  rw [coord_val] at e1 e2
  exact visit_first _ _ _ _ _ _ _ _ _ _ _ (e1.mpr h) (e2.mpr hf)

/-- A later visit leaves the group's own rows over what was found. -/
theorem stepAt_later (hT : TabOK (tbl m)) (hO : Ok m) (c : Dev nD) (t : Fin grid0.N) (h : t.val < (nW (tbl m)).toNat)
    (h0 : t.val ≠ 0) (hf : tW (tbl m) (t.val - 1) = tW (tbl m) t.val) (d : Vec F S256x2816 .bf16) :
    stepAt m hO c t d = k0_pay2 (tW (tbl m) t.val) (xB m hO c t) (wB m hO c t) (xsB m hO c t) (wsB m hO c t)
      (sW (tbl m) (gW (tbl m) t.val).toNat) (eW (tbl m) (gW (tbl m) t.val).toNat) d := by
  have e1 := cond1_iff (grid0.coords t) (nW (tbl m)) hT.tot_le
  have e2 := cond2_iff (grid0.coords t) (tW (tbl m) t.val) (tW (tbl m) (t.val - 1))
  rw [coord_val] at e1 e2
  exact visit_later _ _ _ _ _ _ _ _ _ _ _ (e1.mpr h) (by rw [e2]; rintro (h | h); exacts [h0 h, h hf])

/-! ## The pipeline's proof data -/

/-- The proof data of the one pipeline on core `c`: the arrays as the region finds them (`V`); after the body at point `t`
    each input's buffer at its block and the output's at `outs`; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outs m hO c t.val
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outs m hO c t.val := by dsimp only [dats]; try rfl

/-- Each input's current staging buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The schedule of the output's window -/

/-- The output's block index at point `t` is its row tile. -/
theorem index4 (hO : Ok m) (t : Fin (cfgM m hO).N) : ((cfgM m hO).win 4).index t = ![(tW (tbl m) t.val).toNat, 0] := by
  have h := tr4 (tbl m) (grid0.coords t)
  rw [coord_val] at h
  exact h

/-- A point is idle for the output exactly past the last visit. -/
theorem idle4 (hO : Ok m) (hT : TabOK (tbl m)) (t : Fin (cfgM m hO).N) :
    (cfgM m hO).idle 4 ((cfgM m hO).grid.coords t) = true ↔ (nW (tbl m)).toNat ≤ t.val := by
  have e1 : k0_cond1 (grid0.coords t) (nW (tbl m)) = 1#1 ↔ t.val < (nW (tbl m)).toNat := by
    have := cond1_iff (grid0.coords t) (nW (tbl m)) hT.tot_le
    rwa [coord_val] at this
  have e3 := cond3_iff (grid0.coords t) ((tbl m).atD 1 (k0_off1 (grid0.coords t))) ((tbl m).atD 1 (k0_off3 (grid0.coords t)))
  show ((!(k0_cond1 (grid0.coords t) (nW (tbl m)) == 1#1 && k0_cond2 (grid0.coords t) ((tbl m).atD 1 (k0_off1 (grid0.coords t))) ((tbl m).atD 1 (k0_off3 (grid0.coords t))) == 1#1)
    && !(k0_cond1 (grid0.coords t) (nW (tbl m)) == 1#1 && k0_cond3 (grid0.coords t) ((tbl m).atD 1 (k0_off1 (grid0.coords t))) ((tbl m).atD 1 (k0_off3 (grid0.coords t))) == 1#1)) = true) ↔ _
  simp only [Bool.and_eq_true, Bool.not_eq_true', Bool.and_eq_false_iff, beq_eq_false_iff_ne, ne_eq, e1, e3, not_lt, not_not]
  tauto

/-- A point whose tile is the previous point's finds the previous point's contents. -/
theorem not_fresh (hO : Ok m) (hT : TabOK (tbl m)) : ∀ n, n + 1 < 79 → tW (tbl m) (n + 1) = tW (tbl m) n → (cfgM m hO).fresh 4 (n + 1) = false := by
  intro n
  induction n with
  | zero =>
    intro hn ht
    rw [Pipeline.Cfg.fresh_succ _ _ 0 (by show 0 < 79; omega)]
    have hid : (cfgM m hO).idle 4 ((cfgM m hO).grid.coords ⟨0, by show 0 < 79; omega⟩) = false := by
      rw [← Bool.not_eq_true, idle4 m hO hT]; have := hT.tot_pos; show ¬ (nW (tbl m)).toNat ≤ 0; omega
    rw [hid, Bool.false_and, Bool.or_false]
    unfold Pipeline.Window.flush
    have e : ∀ h : 0 + 1 < 79, ((cfgM m hO).win 4).index ⟨0 + 1, h⟩ = ((cfgM m hO).win 4).index ⟨0, by show 0 < 79; omega⟩ := fun h => by
      rw [index4, index4]; exact congrArg (fun w : BitVec 32 => (![w.toNat, 0] : Fin 2 → ℕ)) ht
    simp only [Bool.and_eq_false_iff, Bool.or_eq_false_iff, decide_eq_false_iff_not]
    refine .inr ⟨by show ¬ 0 + 1 = 79; omega, ?_⟩
    rintro ⟨h, hne⟩
    exact hne (e h)
  | succ n ih =>
    intro hn ht
    rw [Pipeline.Cfg.fresh_succ _ _ (n + 1) (by show n + 1 < 79; omega)]
    have hfl : ((cfgM m hO).win 4).flush ⟨n + 1, by show n + 1 < 79; omega⟩ = false := by
      unfold Pipeline.Window.flush
      have e : ∀ h : n + 1 + 1 < 79, ((cfgM m hO).win 4).index ⟨n + 1 + 1, h⟩ = ((cfgM m hO).win 4).index ⟨n + 1, by show n + 1 < 79; omega⟩ := fun h => by
        rw [index4, index4]; exact congrArg (fun w : BitVec 32 => (![w.toNat, 0] : Fin 2 → ℕ)) ht
      simp only [Bool.and_eq_false_iff, Bool.or_eq_false_iff, decide_eq_false_iff_not]
      refine .inr ⟨by show ¬ n + 1 + 1 = 79; omega, ?_⟩
      rintro ⟨h, hne⟩
      exact hne (e h)
    rw [hfl, Bool.false_or]
    by_cases hi : (cfgM m hO).idle 4 ((cfgM m hO).grid.coords ⟨n + 1, by show n + 1 < 79; omega⟩) = true
    · have hle := (idle4 m hO hT _).mp hi
      rw [ih (by omega) (hT.stay (n + 1) (by omega) (by omega) hle), Bool.and_false]
    · rw [Bool.not_eq_true] at hi; rw [hi, Bool.false_and]

/-- What the body finds in the output's block, at its shape: anything, or what the point before left. -/
def found (hO : Ok m) (c : Dev nD) (t : Fin (cfgM m hO).N) (d : Vec F S256x2816 .bf16) : Vec F S256x2816 .bf16 := (dats m hO 0 c).before 4 t d

theorem found_eq (hO : Ok m) (hT : TabOK (tbl m)) (c : Dev nD) (t : Fin (cfgM m hO).N) (d : Vec F S256x2816 .bf16) :
    found m hO c t d = if (cfgM m hO).fresh 4 t.val then d else outs m hO c (t.val - 1) := by
  refine ((dats m hO 0 c).before_out_traj 4 rfl (fun _ _ => rfl) (fun t h0 hi _ => ?_) t.val t rfl d).trans ?_
  · refine (after0_4 m hO c t).trans (Eq.trans ?_ (after0_4 m hO c _).symm)
    obtain ⟨tv, htv⟩ := t
    obtain ⟨n, rfl⟩ : ∃ n, tv = n + 1 := ⟨tv - 1, by simp only at h0; omega⟩
    exact (outs_succ m hO c n htv).trans (stepAt_idle m hT hO c _ ((idle4 m hO hT _).mp hi) _)
  · rfl

/-- One visit over what the body finds is what the output's block holds after the point, whatever it found where it was
    to be overwritten. -/
theorem stepAt_found (hO : Ok m) (hT : TabOK (tbl m)) (c : Dev nD) (t : Fin (cfgM m hO).N) (d : Vec F S256x2816 .bf16) :
    stepAt m hO c t (found m hO c t d) = outs m hO c t.val := by
  obtain ⟨tv, htv⟩ := t
  cases tv with
  | zero => exact (stepAt_first m hT hO c ⟨0, htv⟩ hT.tot_pos (.inl rfl) _).trans (outs_zero m hO c).symm
  | succ n =>
    refine Eq.trans ?_ (outs_succ m hO c n htv).symm
    by_cases ht : tW (tbl m) (n + 1) = tW (tbl m) n
    · refine congrArg (stepAt m hO c ⟨n + 1, htv⟩) ((found_eq m hO hT c _ d).trans ?_)
      exact if_neg (by rw [not_fresh m hO hT n htv ht]; decide)
    · have hlt : n + 1 < (nW (tbl m)).toNat := by
        by_contra hge
        exact ht (hT.stay (n + 1) (by omega) htv (by omega))
      exact (stepAt_first m hT hO c ⟨n + 1, htv⟩ hlt (.inr fun h => ht h.symm) _).trans (stepAt_first m hT hO c ⟨n + 1, htv⟩ hlt (.inr fun h => ht h.symm) _).symm

/-! ## The body obligation, at a generic point -/

/-- What the output's buffer must hold when the body returns: its contents after the point — or, past the last visit where
    nothing is written back, what was found. -/
def leaves4 (hO : Ok m) (c : Dev nD) (t : Fin (cfgM m hO).N) : sProp 𝕄 :=
  match (cfgM m hO).idle 4 ((cfgM m hO).grid.coords t) with
  | true =>
    match ((cfgM m hO).win 4).flush t with
    | false => iprop(∃ d, owns (c : Thread nD τ) (ms0_4 m hO t) fullShare ((dats m hO 0 c).before 4 t d))
    | true => owns (c : Thread nD τ) (ms0_4 m hO t) fullShare ((dats m hO 0 c).after 4 t)
  | false => owns (c : Thread nD τ) (ms0_4 m hO t) fullShare ((dats m hO 0 c).after 4 t)

theorem leaves4_intro (hO : Ok m) (hT : TabOK (tbl m)) (c : Dev nD) (t : Fin (cfgM m hO).N) (d : Vec F S256x2816 .bf16) :
    owns (c : Thread nD τ) (ms0_4 m hO t) fullShare (stepAt m hO c t (found m hO c t d)) ⊢ (leaves4 m hO c t : sProp 𝕄) := by
  have hlive : owns (c : Thread nD τ) (ms0_4 m hO t) fullShare (stepAt m hO c t (found m hO c t d)) ⊢ (owns (c : Thread nD τ) (ms0_4 m hO t) fullShare ((dats m hO 0 c).after 4 t) : sProp 𝕄) := by
    rw [show stepAt m hO c t (found m hO c t d) = (dats m hO 0 c).after 4 t from (stepAt_found m hO hT c t d).trans (after0_4 m hO c t).symm]
  unfold leaves4
  cases hi : (cfgM m hO).idle 4 ((cfgM m hO).grid.coords t)
  · exact hlive
  · cases ((cfgM m hO).win 4).flush t
    · rw [show stepAt m hO c t (found m hO c t d) = (dats m hO 0 c).before 4 t d from stepAt_idle m hT hO c t ((idle4 m hO hT t).mp hi) _]
      iintro H; iexists d; iexact H
    · exact hlive

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ leaves4 m hO c t)

/-- The body's assumption on the group word, from the group being in range. -/
theorem chk_of_tab (hT : TabOK (tbl m)) (t : Fin grid0.N) : k0_chk1 (grid0.coords t) (gW (tbl m) t.val) (nW (tbl m)) := fun _ a => by
  have := hT.group_lt t.val t.isLt
  fin_cases a
  show (gW (tbl m) t.val).toNat + 1 ≤ 16; omega

set_option maxHeartbeats 1000000 in
/-- The body at any point: the inputs' memrefs hold their blocks, the output's what `before0_4` says; the run applies; the
    invariant passes through, the tables' halves read and handed back. -/
theorem sound_body (hO : Ok m) (hT : TabOK (tbl m)) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  have ho1 : k0_off1 (grid0.coords t) = ![t.val] := (off1_eq _).trans (by rw [coord_val])
  have ho3 : k0_off3 (grid0.coords t) = ![t.val - 1] := (off3_eq _).trans (by rw [coord_val])
  have hlt : t.val < 79 := t.isLt
  iintro ⟨⟨HΦ, ⟨HT0, HT1, HT2, HT3, HT4⟩⟩, Ho, ⟨%d0, H0⟩, ⟨%d1, H1⟩, ⟨%d2, H2⟩, ⟨%d3, H3⟩, ⟨%d4, H4⟩⟩
  iapply ((body_run c (grid0.coords t) _ _ _ _ _ _ _ _ _ _ (xB m hO c t) (xsB m hO c t) (wB m hO c t) (wsB m hO c t) (found m hO c t d4) (tbl m 0) (tbl m 1) (tbl m 2) (tbl m 3) (tbl m 4)
    (gW (tbl m) t.val) (tW (tbl m) t.val) (nW (tbl m)) (sW (tbl m) (gW (tbl m) t.val).toNat) (eW (tbl m) (gW (tbl m) t.val).toNat) (tW (tbl m) (t.val - 1))
    (fun h h' => rd0 (tbl m) c t.val hlt _ ho1 h h') (fun h h' => rd1 (tbl m) c t.val hlt _ ho1 h h') (fun h h' => rd4 (tbl m) c h h')
    (fun h h' => rd2 (tbl m) c _ _ (off2_eq _) h h') (fun h h' => rd3 (tbl m) c _ _ (off2_eq _) h h')
    (fun h h' => rd1 (tbl m) c (t.val - 1) (by omega) _ ho3 h h') (chk_of_tab m hT t)) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HT4]; · iexact HT4
  iintro ⟨H0, H1, H2, H3, H4, HT0, HT1, HT2, HT3, HT4⟩
  isplitl [HΦ HT0 HT1 HT2 HT3 HT4]
  · isplitl [HΦ]
    · iexact HΦ
    isplitl [HT0]; · iexact HT0
    isplitl [HT1]; · iexact HT1
    isplitl [HT2]; · iexact HT2
    isplitl [HT3]; · iexact HT3
    iexact HT4
  isplitl [Ho]; · iexact Ho
  isplitl [H0]; · iexact H0
  isplitl [H1]; · iexact H1
  isplitl [H2]; · iexact H2
  isplitl [H3]; · iexact H3
  iapply (leaves4_intro m hO hT c t d4)
  iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (hT : TabOK (tbl m)) (c : Dev nD) : BodyObligation (dats (F := F) m hO 0 c) (defs₀ (F := F)) Variants.none () Set.univ := fun t => by
  rw [bigSep_W0, bigSep_W0, defs₀_row m hO]
  exact triple_restated (sound_body m hO hT c t) rfl .rfl fun _ => .rfl

/-! ## The run and the frame -/

set_option maxHeartbeats 1000000 in
-- the launch theorem's implicit arguments are found by unifying its conclusion with this one, which takes unfolding plain
-- definitions in a metavariable's type
set_option backward.isDefEq.respectTransparency.types false in
/-- The launch: every weakly fair execution of @main terminates with every array of the pipeline at the library's `arrAt` — an
    input's as launched, the output's overwritten by each block written back —, every other buffer as the region found it,
    and every semaphore counter at zero. -/
theorem run_main (hO : Ok m) (hT : TabOK (tbl m)) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO hT c).loose) (hshare := fun c => (dats m hO 0 c).share_full fun _ => rfl)
    (howed := fun _ _ => rfl) (V := V m) (hmain := hmain m Variants.none) (hA := A_eq m hO) (hpf := V_pre m) (hΦ := fun _ _ => rfl)

/-- What the launch says of the arguments: an input window's array is never written; the other arguments bypass the region. -/
theorem args_of (hO : Ok m) (r : PUnit × MemSt nD τ sig (Elt F)) (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine ⟨?_, ?_, ?_, ?_, ?_⟩
  · exact (((h c).1 0).trans (((dats m hO 0 c).arrAt_in 0 rfl _).trans (A_eq m hO c 0))).trans (V_arg m c main_arg0 (by decide))
  · exact (((h c).1 1).trans (((dats m hO 0 c).arrAt_in 1 rfl _).trans (A_eq m hO c 1))).trans (V_arg m c main_arg1 (by decide))
  · exact ((h c).2 main_arg2 (by decide : main_arg2 ∈ Pipeline.restRefs sig spec0)).trans (V_arg m c main_arg2 (by decide))
  · exact (((h c).1 2).trans (((dats m hO 0 c).arrAt_in 2 rfl _).trans (A_eq m hO c 2))).trans (V_arg m c main_arg3 (by decide))
  · exact ((h c).2 main_arg4 (by decide : main_arg4 ∈ Pipeline.restRefs sig spec0)).trans (V_arg m c main_arg4 (by decide))

/-- The frame: every weakly fair execution terminates, the argument arrays unchanged and every counter at zero. -/
theorem frame (hO : Ok m) (hT : TabOK (tbl m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_of m hO r h.1, h.2⟩) (run_main m ρ hO hT)

end Cert.KernelIdeal.Run

end
-- ==== Proof.KernelIdealRead.lean ====
/- The five tables of `KernelIdeal`'s launch, read off the host lines: each is the one of `Words` at the group sizes the program is
   given. -/
module

public import proofs.«01_k».proof.Proof.KernelIdealTab
public import proofs.«01_k».proof.Proof.Words
public import proofs.«01_k».proof.Proof.Fill
public import Idealize.ShloMosaic.Lib.StableHlo.RunRead

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The group sizes the program is given. -/
def sizes : IVec (Idealize.ShloMosaic.Routing.shape1 16) 32 := m (((0 : Dev nD) : Thread nD τ).loc main_arg2)

theorem V_ends : V m (0 : Dev nD) main_v0 = Words.ends (sizes m) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  simp -implicitDefEqProofs only [StableHlo.TRef.toBuf, StableHlo.TRef.ofBuf, cast_cast, cast_eq]
  rfl
theorem V_starts : V m (0 : Dev nD) main_v1 = Words.starts (sizes m) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  simp -implicitDefEqProofs only [StableHlo.TRef.toBuf, StableHlo.TRef.ofBuf, cast_cast, cast_eq]
  rfl
theorem V_tots : V m (0 : Dev nD) main_v37 = Words.tots (sizes m) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  simp -implicitDefEqProofs only [StableHlo.TRef.toBuf, StableHlo.TRef.ofBuf, cast_cast, cast_eq]
  rfl
theorem V_groups : V m (0 : Dev nD) main_v20 = Words.groups (sizes m) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  simp -implicitDefEqProofs only [StableHlo.TRef.toBuf, StableHlo.TRef.ofBuf, cast_cast, cast_eq]
  rfl
theorem V_tiles : V m (0 : Dev nD) main_v36 = Words.tiles (sizes m) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  simp -implicitDefEqProofs only [StableHlo.TRef.toBuf, StableHlo.TRef.ofBuf, cast_cast, cast_eq]
  rfl

/-! ## The tables' words, where the sizes fill the rows -/

open Idealize.ShloMosaic.ValueIdx

section words
/-- The naturals in the sizes. -/
abbrev gs : ℕ → ℕ := Fill.nats (sizes m)

theorem gW_eq (hF : Fill.Fills (sizes m)) (n : ℕ) (hn : n < 79) : gW (tbl m) n = BitVec.ofNat 32 (Plan.group (gs m) n) := by
  refine Eq.trans ?_ (Words.groups_ap (sizes m) (gs m) (Fill.nats_ap _) hF.sum ⟨n, hn⟩)
  rw [← V_groups]
  unfold gW Pipeline.Prefetch.Contents.atD
  rw [dif_pos (by intro a; fin_cases a; exact hn), tbl_eq]
  exact congrArg (V m (0 : Dev nD) main_v20) (funext fun a => Fin.ext (by fin_cases a; rfl))
theorem tW_eq (hF : Fill.Fills (sizes m)) (n : ℕ) (hn : n < 79) : tW (tbl m) n = BitVec.ofNat 32 (Plan.tile (gs m) n) := by
  refine Eq.trans ?_ (Words.tiles_ap (sizes m) (gs m) (Fill.nats_ap _) hF.sum ⟨n, hn⟩)
  rw [← V_tiles]
  unfold tW Pipeline.Prefetch.Contents.atD
  rw [dif_pos (by intro a; fin_cases a; exact hn), tbl_eq]
  exact congrArg (V m (0 : Dev nD) main_v36) (funext fun a => Fin.ext (by fin_cases a; rfl))
theorem sW_eq (g : ℕ) (hg : g < 16) : sW (tbl m) g = BitVec.ofNat 32 (Plan.pre (gs m) g) := by
  refine Eq.trans ?_ (Words.starts_ap (sizes m) (gs m) (Fill.nats_ap _) ⟨g, hg⟩)
  rw [← V_starts]
  unfold sW Pipeline.Prefetch.Contents.atD
  rw [dif_pos (by intro a; fin_cases a; exact hg), tbl_eq]
  exact congrArg (V m (0 : Dev nD) main_v1) (funext fun a => Fin.ext (by fin_cases a; rfl))
theorem eW_eq (g : ℕ) (hg : g < 16) : eW (tbl m) g = BitVec.ofNat 32 (Plan.pre (gs m) (g + 1)) := by
  refine Eq.trans ?_ (Words.ends_ap (sizes m) (gs m) (Fill.nats_ap _) ⟨g, hg⟩)
  rw [← V_ends]
  unfold eW Pipeline.Prefetch.Contents.atD
  rw [dif_pos (by intro a; fin_cases a; exact hg), tbl_eq]
  exact congrArg (V m (0 : Dev nD) main_v0) (funext fun a => Fin.ext (by fin_cases a; rfl))
theorem nW_eq (hF : Fill.Fills (sizes m)) : nW (tbl m) = BitVec.ofNat 32 (Plan.total (gs m)) := by
  refine Eq.trans ?_ (Words.tots_ap (sizes m) (gs m) (Fill.nats_ap _) hF.sum)
  rw [← V_tots]
  unfold nW Pipeline.Prefetch.Contents.atD
  rw [dif_pos (by intro a; fin_cases a; decide), tbl_eq]
  exact congrArg (V m (0 : Dev nD) main_v37) (funext fun a => Fin.ext (by fin_cases a; rfl))

theorem gN (hF : Fill.Fills (sizes m)) (n : ℕ) (hn : n < 79) : (gW (tbl m) n).toNat = Plan.group (gs m) n := by
  have := (Plan.group_spec (gs m) hF.sum n).1
  rw [gW_eq m hF n hn, BitVec.toNat_ofNat, Nat.mod_eq_of_lt (by omega)]
theorem tN (hF : Fill.Fills (sizes m)) (n : ℕ) (hn : n < 79) : (tW (tbl m) n).toNat = Plan.tile (gs m) n := by
  have := Plan.tile_lt (gs m) hF.sum n
  rw [tW_eq m hF n hn, BitVec.toNat_ofNat, Nat.mod_eq_of_lt (by omega)]
theorem nN (hF : Fill.Fills (sizes m)) : (nW (tbl m)).toNat = Plan.total (gs m) := by
  have := Plan.total_le (gs m) hF.sum
  rw [nW_eq m hF, BitVec.toNat_ofNat, Nat.mod_eq_of_lt (by omega)]

/-- The tables are as the launch needs them. -/
theorem tabOK (hF : Fill.Fills (sizes m)) : TabOK (tbl m) where
  tile_lt n hn := by rw [tN m hF n hn]; exact Plan.tile_lt (gs m) hF.sum n
  group_lt n hn := by rw [gN m hF n hn]; exact (Plan.group_spec (gs m) hF.sum n).1
  tot_pos := by rw [nN m hF]; exact Plan.total_pos (gs m) hF.sum
  tot_le := by rw [nN m hF]; exact Plan.total_le (gs m) hF.sum
  stay n h1 hn h := by
    rw [nN m hF] at h
    rw [tW_eq m hF n hn, tW_eq m hF (n - 1) (by omega), Plan.stay (gs m) hF.sum n h1 h]

/-- The pipeline's side condition holds of them. -/
theorem ok (hF : Fill.Fills (sizes m)) : Ok m := ok_of_tab _ (tabOK m hF)

end words

end Cert.KernelIdeal.Run

end
-- ==== Proof.Spec.lean ====
/- What both programs compute, at an index: row `r` times its group's weights, times the two scales. -/
module

public import proofs.«01_k».proof.Proof.Plan
public import Idealize.ShloMosaic.Lib.Pointwise
public import Idealize.ShloMosaic.Lib.Routing.OpsSearch

@[expose] public section

noncomputable section

namespace Spec

open Idealize.ShloMosaic Idealize.ShloMosaic.Routing

/-- The arguments at their shapes: the rows, their scales, the groups' weights, their scales. -/
abbrev Rows := Vec Ideal (shape2 16384 2816) .fp8e4m3
abbrev RowScales := Vec Ideal (shape1 16384) .f32
abbrev Weights := Vec Ideal (⟨3, ![16, 2816, 2816]⟩ : Shape) .fp8e4m3
abbrev WeightScales := Vec Ideal (shape2 16 2816) .f32

/-- Row `r` times column `j` of group `g`'s weights, scaled by the row and by the group's column. -/
def val (x : Rows) (xs : RowScales) (w : Weights) (ws : WeightScales) (g : Fin 16) (r : Fin 16384) (j : Fin 2816) : EReal :=
  ((∑ k : Fin 2816, x (ix2 r k) * w (ix3 g k j)) * xs (ix1 r)) * ws (ix2 g j)

/-- The group of row `r`: how many groups end at or before it. -/
def grp (gs : ℕ → ℕ) (r : ℕ) : Fin 16 := ⟨min (Nat.count (fun k => Plan.pre gs (k + 1) ≤ r) 16) 15, by omega⟩

/-- A row between a group's ends belongs to that group. -/
theorem grp_eq (gs : ℕ → ℕ) (hsum : Plan.pre gs 16 = 16384) (r : ℕ) (g : ℕ) (hg : g < 16) (h1 : Plan.pre gs g ≤ r) (h2 : r < Plan.pre gs (g + 1)) :
    grp gs r = ⟨g, hg⟩ := by
  have hr : r < Plan.pre gs (15 + 1) := by
    have := Plan.pre_mono gs (show g + 1 ≤ 16 by omega)
    exact lt_of_lt_of_le h2 this
  obtain ⟨g', hle, hc, h1', h2'⟩ := Plan.count_spec gs r 15 hr
  have : g' = g := Plan.term_unique h1' h2' h1 h2
  subst this
  apply Fin.ext
  show min (Nat.count _ 16) 15 = g'
  rw [show Nat.count (fun k => Plan.pre gs (k + 1) ≤ r) 16 = g' from hc]
  omega

/-- The count of the groups that end at or before a row is its group. -/
theorem grp_val (gs : ℕ → ℕ) (hsum : Plan.pre gs 16 = 16384) (r : ℕ) (hr : r < 16384) :
    (grp gs r).val = Nat.count (fun k => Plan.pre gs (k + 1) ≤ r) 16 ∧ Plan.pre gs (grp gs r).val ≤ r ∧ r < Plan.pre gs ((grp gs r).val + 1) := by
  obtain ⟨g', hle, hc, h1', h2'⟩ := Plan.count_spec gs r 15 (by rw [hsum]; exact hr)
  rw [grp_eq gs hsum r g' (by omega) h1' h2']
  exact ⟨hc.symm, h1', h2'⟩

/-- The whole result. -/
def out (gs : ℕ → ℕ) (x : Rows) (xs : RowScales) (w : Weights) (ws : WeightScales) : Vec Ideal (shape2 16384 2816) .bf16 :=
  fun i => val x xs w ws (grp gs (i 0).val) (i 0) (i 1)

end Spec

end
-- ==== Proof.KernelIdealBlock.lean ====
/- One visit of `KernelIdeal`, at an index: where its blocks sit in the arguments, and what the body computes of them. -/
module

public import proofs.«01_k».proof.Proof.KernelIdealFrame
public import proofs.«01_k».proof.Proof.KernelIdealRead
public import proofs.«01_k».proof.Proof.Spec
public import Idealize.ShloMosaic.Lib.Pointwise
public import Idealize.ShloMosaic.Lib.MatmulPlain
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable (m : (ℓ : Loc nD τ sig) → Buf (Elt Ideal) ℓ)

open Idealize.ShloMosaic.Routing

/-! ## The arguments, and the blocks in them -/

/-- The rows, their scales, the weights and their scales the program is given. -/
def xA : Spec.Rows := m (((0 : Dev nD) : Thread nD τ).loc main_arg0)
def xsA : Spec.RowScales := m (((0 : Dev nD) : Thread nD τ).loc main_arg1)
def wA : Spec.Weights := m (((0 : Dev nD) : Thread nD τ).loc main_arg3)
def wsA : Spec.WeightScales := m (((0 : Dev nD) : Thread nD τ).loc main_arg4)

theorem V_ws : V m (0 : Dev nD) main_v38 = shapeCast S16x1x2816 (wsA m) shapeCasts_S16x2816_S16x1x2816 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  rfl

theorem index0 (hO : Ok m) (t : Fin (cfgM m hO).N) : ((cfgM m hO).win 0).index t = ![(tW (tbl m) t.val).toNat, 0] := by
  have h := tr0 (tbl m) (grid0.coords t)
  rw [coord_val] at h
  exact h
theorem index1 (hO : Ok m) (t : Fin (cfgM m hO).N) : ((cfgM m hO).win 1).index t = ![(tW (tbl m) t.val).toNat] := by
  have h := tr1 (tbl m) (grid0.coords t)
  rw [coord_val] at h
  exact h
theorem index2 (hO : Ok m) (t : Fin (cfgM m hO).N) : ((cfgM m hO).win 2).index t = ![(gW (tbl m) t.val).toNat, 0, 0] := by
  have h := tr2 (tbl m) (grid0.coords t)
  rw [coord_val] at h
  exact h
theorem index3 (hO : Ok m) (t : Fin (cfgM m hO).N) : ((cfgM m hO).win 3).index t = ![(gW (tbl m) t.val).toNat, 0, 0] := by
  have h := tr3 (tbl m) (grid0.coords t)
  rw [coord_val] at h
  exact h

section blocks
variable (hO : Ok m) (t : Fin grid0.N)

/-- Row `p` of the block of tile `T` is row `256 T + p` of the array. -/
theorem xB_at (T : ℕ) (hT : (tW (tbl m) t.val).toNat = T) (hb : T < 64) (p : Fin 256) (k : Fin 2816) :
    xB m hO (0 : Dev nD) t (ix2 p k) = xA m (ix2 ⟨T * 256 + p.val, by omega⟩ k) := by
  refine Eq.trans (b := V m (0 : Dev nD) main_arg0 (ix2 ⟨T * 256 + p.val, by omega⟩ k)) ?_ (congrFun (V_arg m (0 : Dev nD) main_arg0 (by decide)) _)
  refine congrArg (V m (0 : Dev nD) main_arg0) (funext fun a => Fin.ext ?_)
  refine (((cfgM m hO).win 0).rect_emb_val_off t (ix2 p k) a).trans ?_
  rw [index0, hT]
  fin_cases a
  · show T * 256 + p.val = _; rfl
  · show 0 * 2816 + k.val = _; exact (by omega : 0 * 2816 + k.val = k.val)
theorem xsB_at (T : ℕ) (hT : (tW (tbl m) t.val).toNat = T) (hb : T < 64) (p : Fin 256) :
    xsB m hO (0 : Dev nD) t (ix1 p) = xsA m (ix1 ⟨T * 256 + p.val, by omega⟩) := by
  refine Eq.trans (b := V m (0 : Dev nD) main_arg1 (ix1 ⟨T * 256 + p.val, by omega⟩)) ?_ (congrFun (V_arg m (0 : Dev nD) main_arg1 (by decide)) _)
  refine congrArg (V m (0 : Dev nD) main_arg1) (funext fun a => Fin.ext ?_)
  refine (((cfgM m hO).win 1).rect_emb_val_off t (ix1 p) a).trans ?_
  rw [index1, hT]
  fin_cases a
  show T * 256 + p.val = _; rfl
theorem wB_at (g : Fin 16) (hg : (gW (tbl m) t.val).toNat = g.val) (k j : Fin 2816) :
    wB m hO (0 : Dev nD) t (ix3 (0 : Fin 1) k j) = wA m (ix3 g k j) := by
  refine Eq.trans (b := V m (0 : Dev nD) main_arg3 (ix3 g k j)) ?_ (congrFun (V_arg m (0 : Dev nD) main_arg3 (by decide)) _)
  refine congrArg (V m (0 : Dev nD) main_arg3) (funext fun a => Fin.ext ?_)
  refine (((cfgM m hO).win 2).rect_emb_val_off t (ix3 (0 : Fin 1) k j) a).trans ?_
  rw [index2, hg]
  fin_cases a
  · show g.val * 1 + 0 = _; exact (by omega : g.val * 1 + 0 = g.val)
  · show 0 * 2816 + k.val = _; exact (by omega : 0 * 2816 + k.val = k.val)
  · show 0 * 2816 + j.val = _; exact (by omega : 0 * 2816 + j.val = j.val)
theorem wsB_at (g : Fin 16) (hg : (gW (tbl m) t.val).toNat = g.val) (j : Fin 2816) :
    wsB m hO (0 : Dev nD) t (ix3 (0 : Fin 1) (0 : Fin 1) j) = wsA m (ix2 g j) := by
  refine Eq.trans (b := V m (0 : Dev nD) main_v38 (ix3 g (0 : Fin 1) j)) ?_ ?_
  · refine congrArg (V m (0 : Dev nD) main_v38) (funext fun a => Fin.ext ?_)
    refine (((cfgM m hO).win 3).rect_emb_val_off t (ix3 (0 : Fin 1) (0 : Fin 1) j) a).trans ?_
    rw [index3, hg]
    fin_cases a
    · show g.val * 1 + 0 = _; exact (by omega : g.val * 1 + 0 = g.val)
    · show 0 * 1 + 0 = _; rfl
    · show 0 * 2816 + j.val = _; exact (by omega : 0 * 2816 + j.val = j.val)
  · rw [V_ws]
    pointwise
end blocks

/-! ## The body's two results at an index -/

theorem pay1_at (x : Vec Ideal S256x2816 .fp8e4m3) (w : Vec Ideal S1x2816x2816 .fp8e4m3) (xs : Vec Ideal S256 .f32) (ws : Vec Ideal S1x1x2816 .f32)
    (p : Fin 256) (j : Fin 2816) :
    k0_pay1 x w xs ws (ix2 p j) = ((∑ k : Fin 2816, x (ix2 p k) * w (ix3 (0 : Fin 1) k j)) * xs (ix1 p)) * ws (ix3 (0 : Fin 1) (0 : Fin 1) j) := by
  unfold k0_pay1
  pointwise

/-- The body's later-visit result is its own where the row lies between the group's ends, and what was there elsewhere. -/
theorem pay2_at (T s e : ℕ) (hT : T < 64) (hs : s ≤ 16384) (he : e ≤ 16384)
    (x : Vec Ideal S256x2816 .fp8e4m3) (w : Vec Ideal S1x2816x2816 .fp8e4m3) (xs : Vec Ideal S256 .f32) (ws : Vec Ideal S1x1x2816 .f32)
    (d : Vec Ideal S256x2816 .bf16) (p : Fin 256) (j : Fin 2816) :
    k0_pay2 (BitVec.ofNat 32 T) x w xs ws (BitVec.ofNat 32 s) (BitVec.ofNat 32 e) d (ix2 p j)
      = if s ≤ T * 256 + p.val ∧ T * 256 + p.val < e then k0_pay1 x w xs ws (ix2 p j) else d (ix2 p j) := by
  have hw : Scalar.muli (BitVec.ofNat 32 T) 256#32 + BitVec.ofNat 32 p.val = BitVec.ofNat 32 (T * 256 + p.val) := by
    show BitVec.ofNat 32 T * 256#32 + BitVec.ofNat 32 p.val = _
    apply BitVec.eq_of_toNat_eq
    simp only [BitVec.toNat_add, BitVec.toNat_mul, BitVec.toNat_ofNat]
    omega
  unfold k0_pay2
  pointwise
  show Scalar.select (IntOp.andi
      (BitVec.ofBool ((BitVec.ofNat 32 s).sle (Scalar.muli (BitVec.ofNat 32 T) 256#32 + BitVec.ofNat 32 p.val)))
      (BitVec.ofBool ((Scalar.muli (BitVec.ofNat 32 T) 256#32 + BitVec.ofNat 32 p.val).slt (BitVec.ofNat 32 e)))) _ _ = _
  rw [hw, sle_ofNat32 (by omega) (by omega), slt_ofNat32 (by omega) (by omega)]
  by_cases h1 : s ≤ T * 256 + p.val <;> by_cases h2 : T * 256 + p.val < e <;> simp [h1, h2, Scalar.select, IntOp.andi]

end Cert.KernelIdeal.Run

end
-- ==== Proof.KernelIdealValue.lean ====
/- What `KernelIdeal`'s result holds after the run: visit by visit the rows of a tile up to the end of the visit's group are
   right, so what is written back at a tile's last visit is right on every row. -/
module

public import proofs.«01_k».proof.Proof.KernelIdealBlock

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable (m : (ℓ : Loc nD τ sig) → Buf (Elt Ideal) ℓ)

open Idealize.ShloMosaic.Routing

/-- What the kernel leaves at row `r`, column `j`. -/
def cell (r : Fin 16384) (j : Fin 2816) : EReal := Spec.val (xA m) (xsA m) (wA m) (wsA m) (Spec.grp (gs m) r.val) r j

section visits
variable (hF : Fill.Fills (sizes m))
include hF

/-- A first visit leaves the right value on every row of its own group. -/
theorem yAt_at (t : Fin grid0.N) (r : Fin 16384) (p : Fin 256) (hr : r.val = Plan.tile (gs m) t.val * 256 + p.val)
    (h1 : Plan.pre (gs m) (Plan.group (gs m) t.val) ≤ r.val) (h2 : r.val < Plan.pre (gs m) (Plan.group (gs m) t.val + 1)) (j : Fin 2816) :
    yAt m (ok m hF) (0 : Dev nD) t (ix2 p j) = cell m r j := by
  have hg := (Plan.group_spec (gs m) hF.sum t.val).1
  have hT := Plan.tile_lt (gs m) hF.sum t.val
  have er : (⟨Plan.tile (gs m) t.val * 256 + p.val, by omega⟩ : Fin 16384) = r := Fin.ext hr.symm
  unfold yAt cell
  rw [pay1_at, Spec.grp_eq (gs m) hF.sum r.val _ hg h1 h2]
  unfold Spec.val
  rw [xsB_at m (ok m hF) t _ (tN m hF t.val t.isLt) hT p, wsB_at m (ok m hF) t ⟨_, hg⟩ (gN m hF t.val t.isLt) j, er]
  refine congrArg (fun z => z * _ * _) (Finset.sum_congr rfl fun k _ => ?_)
  rw [xB_at m (ok m hF) t _ (tN m hF t.val t.isLt) hT p k, wB_at m (ok m hF) t ⟨_, hg⟩ (gN m hF t.val t.isLt) k j, er]

/-- After visit `n` every row of its tile up to the end of its group holds the right value. -/
theorem outs_at (n : ℕ) (hn : n < Plan.total (gs m)) : ∀ (r : Fin 16384) (p : Fin 256) (j : Fin 2816),
    r.val = Plan.tile (gs m) n * 256 + p.val → r.val < Plan.pre (gs m) (Plan.group (gs m) n + 1) →
    outs m (ok m hF) (0 : Dev nD) n (ix2 p j) = cell m r j := by
  have htl := Plan.total_le (gs m) hF.sum
  induction n with
  | zero =>
    intro r p j hr h2
    rw [outs_zero]
    exact yAt_at m hF ⟨0, by decide⟩ r p hr (by rw [(Plan.first (gs m) hF.sum).2]; omega) h2 j
  | succ n ih =>
    intro r p j hr h2
    have h79 : n + 1 < 79 := by omega
    have hlt : n + 1 < (nW (tbl m)).toNat := by rw [nN m hF]; exact hn
    have ht := Plan.tile_spec (gs m) hF.sum n
    rw [outs_succ m _ _ n h79]
    by_cases hs : Plan.tile (gs m) (n + 1) = Plan.tile (gs m) n
    · have hw : tW (tbl m) (n + 1 - 1) = tW (tbl m) (n + 1) := by
        rw [Nat.add_sub_cancel, tW_eq m hF n (by omega), tW_eq m hF (n + 1) h79, hs]
      rw [stepAt_later m (tabOK m hF) (ok m hF) (0 : Dev nD) ⟨n + 1, h79⟩ hlt (Nat.succ_ne_zero n) hw]
      have hg := (Plan.group_spec (gs m) hF.sum (n + 1)).1
      have hpl := Plan.pre_le (gs m) hF.sum
      have e := pay2_at (Plan.tile (gs m) (n + 1)) (Plan.pre (gs m) (Plan.group (gs m) (n + 1))) (Plan.pre (gs m) (Plan.group (gs m) (n + 1) + 1))
        (Plan.tile_lt (gs m) hF.sum (n + 1)) (hpl _ (by omega)) (hpl _ (by omega))
        (xB m (ok m hF) (0 : Dev nD) ⟨n + 1, h79⟩) (wB m (ok m hF) (0 : Dev nD) ⟨n + 1, h79⟩) (xsB m (ok m hF) (0 : Dev nD) ⟨n + 1, h79⟩) (wsB m (ok m hF) (0 : Dev nD) ⟨n + 1, h79⟩)
        (outs m (ok m hF) (0 : Dev nD) n) p j
      have eg := gN m hF (n + 1) h79
      show k0_pay2 (tW (tbl m) (n + 1)) _ _ _ _ (sW (tbl m) (gW (tbl m) (n + 1)).toNat) (eW (tbl m) (gW (tbl m) (n + 1)).toNat) _ _ = _
      rw [eg, tW_eq m hF (n + 1) h79, sW_eq m _ hg, eW_eq m _ hg, e, ← hr]
      by_cases h1 : Plan.pre (gs m) (Plan.group (gs m) (n + 1)) ≤ r.val
      · rw [if_pos ⟨h1, h2⟩]
        exact yAt_at m hF ⟨n + 1, h79⟩ r p hr h1 h2 j
      · rw [if_neg fun h => h1 h.1]
        rcases Plan.step (gs m) hF.sum n hn with ⟨_, h, _⟩ | ⟨h, _, _⟩
        · omega
        · exact ih (by omega) r p j (by rw [hr, hs]) (by omega)
    · have hw : tW (tbl m) (n + 1 - 1) ≠ tW (tbl m) (n + 1) := by
        intro h
        rw [Nat.add_sub_cancel] at h
        have h' := congrArg BitVec.toNat h
        rw [tN m hF n (by omega), tN m hF (n + 1) h79] at h'
        exact hs h'.symm
      rw [stepAt_first m (tabOK m hF) (ok m hF) (0 : Dev nD) ⟨n + 1, h79⟩ hlt (.inr hw)]
      refine yAt_at m hF ⟨n + 1, h79⟩ r p hr ?_ h2 j
      show Plan.pre (gs m) (Plan.group (gs m) (n + 1)) ≤ r.val
      rcases Plan.step (gs m) hF.sum n hn with ⟨hg, ht', _⟩ | ⟨hg, h3, h4⟩
      · rw [hg]; omega
      · rw [hg]; omega

/-- Past the last visit nothing changes. -/
theorem outs_past (a : ℕ) (ha : Plan.total (gs m) ≤ a + 1) (k : ℕ) (hk : a + k < 79) :
    outs m (ok m hF) (0 : Dev nD) (a + k) = outs m (ok m hF) (0 : Dev nD) a ∧ Plan.tile (gs m) (a + k) = Plan.tile (gs m) a := by
  induction k with
  | zero => rw [Nat.add_zero]; exact ⟨Eq.refl _, Eq.refl _⟩
  | succ k ih =>
    obtain ⟨i1, i2⟩ := ih (by omega)
    have hb : a + k + 1 < 79 := by omega
    have hi : (nW (tbl m)).toNat ≤ a + k + 1 := by rw [nN m hF]; omega
    refine ⟨?_, ?_⟩
    · exact ((outs_succ m (ok m hF) (0 : Dev nD) (a + k) hb).trans (stepAt_idle m (tabOK m hF) (ok m hF) (0 : Dev nD) ⟨a + k + 1, hb⟩ hi _)).trans i1
    · exact (Plan.stay (gs m) hF.sum (a + k + 1) (by omega) (by omega)).trans i2

/-- What is written back is right on every row of the tile: at the last grid point and wherever the tile changes. -/
theorem outs_flush (n : ℕ) (hn : n < 79) (h : n + 1 = 79 ∨ Plan.tile (gs m) (n + 1) ≠ Plan.tile (gs m) n) (r : Fin 16384) (p : Fin 256) (j : Fin 2816)
    (hr : r.val = Plan.tile (gs m) n * 256 + p.val) : outs m (ok m hF) (0 : Dev nD) n (ix2 p j) = cell m r j := by
  have hp := Plan.total_pos (gs m) hF.sum
  have htl := Plan.total_le (gs m) hF.sum
  by_cases hl : n < Plan.total (gs m)
  · have hE := Plan.ends_tile (gs m) hF.sum n hl (by rcases h with h | h <;> [left; exact .inr h]; omega)
    exact outs_at m hF n hl r p j hr (by omega)
  · obtain ⟨k, rfl⟩ : ∃ k, n = Plan.total (gs m) - 1 + k := ⟨n - (Plan.total (gs m) - 1), by omega⟩
    obtain ⟨e1, e2⟩ := outs_past m hF (Plan.total (gs m) - 1) (by omega) k hn
    have hE := Plan.ends_tile (gs m) hF.sum (Plan.total (gs m) - 1) (by omega) (.inl (by omega))
    rw [e1]
    exact outs_at m hF _ (by omega) r p j (by rw [hr, e2]) (by omega)

/-! ## The array after the run -/

theorem flush_iff (t : Fin (cfgM m (ok m hF)).N) : ((cfgM m (ok m hF)).win 4).flush t = true
    ↔ t.val + 1 = 79 ∨ (t.val + 1 < 79 ∧ Plan.tile (gs m) (t.val + 1) ≠ Plan.tile (gs m) t.val) := by
  have ht : t.val < 79 := t.isLt
  have key : (∃ h : t.val + 1 < 79, ((cfgM m (ok m hF)).win 4).index ⟨t.val + 1, h⟩ ≠ ((cfgM m (ok m hF)).win 4).index t)
      ↔ (t.val + 1 < 79 ∧ Plan.tile (gs m) (t.val + 1) ≠ Plan.tile (gs m) t.val) := by
    have e : ∀ h : t.val + 1 < 79, (((cfgM m (ok m hF)).win 4).index ⟨t.val + 1, h⟩ = ((cfgM m (ok m hF)).win 4).index t
        ↔ Plan.tile (gs m) (t.val + 1) = Plan.tile (gs m) t.val) := fun h => by
      rw [index4, index4, tN m hF t.val ht, tN m hF (t.val + 1) h]
      exact ⟨fun h => congrFun h 0, fun h => by rw [h]⟩
    constructor
    · rintro ⟨h, hne⟩; exact ⟨h, fun h' => hne ((e h).mpr h')⟩
    · rintro ⟨h, hne⟩; exact ⟨h, fun h' => hne ((e h).mp h')⟩
  rw [← key]
  unfold Pipeline.Window.flush
  simp only [Bool.and_eq_true, Bool.or_eq_true, decide_eq_true_eq]
  exact ⟨fun h => h.2, fun h => ⟨rfl, h⟩⟩

/-- Where an element of the output's block sits in the array. -/
theorem emb4 (t : Fin (cfgM m (ok m hF)).N) (r : Fin 16384) (p : Fin 256) (j : Fin 2816) (hr : r.val = Plan.tile (gs m) t.val * 256 + p.val) :
    (((cfgM m (ok m hF)).win 4).blk t).view.emb (ix2 p j) = (ix2 r j : (⟨2, ![16384, 2816]⟩ : Shape).Idx) := by
  refine funext fun a => Fin.ext ?_
  refine (((cfgM m (ok m hF)).win 4).rect_emb_val_off t (ix2 p j) a).trans ?_
  rw [index4, tN m hF t.val t.isLt]
  fin_cases a
  · show Plan.tile (gs m) t.val * 256 + p.val = r.val; exact hr.symm
  · show 0 * 2816 + j.val = _; exact (by omega : 0 * 2816 + j.val = j.val)

/-- The result's array after the run, at every index. -/
theorem arr_eq : (dats m (ok m hF) 0 (0 : Dev nD)).arrAt 4 (cfgM m (ok m hF)).N = Spec.out (gs m) (xA m) (xsA m) (wA m) (wsA m) := by
  refine (dats m (ok m hF) 0 (0 : Dev nD)).arrAt_eq_of_cover 4 _ (fun t hf => ?_) fun i => ?_
  · funext y
    obtain ⟨p, j, rfl⟩ : ∃ (p : Fin 256) (j : Fin 2816), y = (ix2 p j : (⟨2, ![256, 2816]⟩ : Shape).Idx) :=
      have h : ∀ z : (⟨2, ![256, 2816]⟩ : Shape).Idx, ∃ (p : Fin 256) (j : Fin 2816), z = ix2 p j := fun z => ⟨z 0, z 1, eq_ix2 z⟩
      h y
    have hT := Plan.tile_lt (gs m) hF.sum t.val
    have hfl := (flush_iff m hF t).mp hf
    refine Eq.trans (b := outs m (ok m hF) (0 : Dev nD) t.val (ix2 p j)) ?_ ?_
    · rfl
    · refine (outs_flush m hF t.val t.isLt (hfl.imp id fun h => h.2) ⟨Plan.tile (gs m) t.val * 256 + p.val, by omega⟩ p j rfl).trans ?_
      exact (congrArg (Spec.out (gs m) (xA m) (xsA m) (wA m) (wsA m)) (emb4 m hF t ⟨Plan.tile (gs m) t.val * 256 + p.val, by omega⟩ p j rfl)).symm
  · obtain ⟨r, j, rfl⟩ : ∃ (r : Fin 16384) (j : Fin 2816), i = (ix2 r j : (⟨2, ![16384, 2816]⟩ : Shape).Idx) :=
      have h : ∀ z : (⟨2, ![16384, 2816]⟩ : Shape).Idx, ∃ (r : Fin 16384) (j : Fin 2816), z = ix2 r j := fun z => ⟨z 0, z 1, eq_ix2 z⟩
      h i
    obtain ⟨n, hn, ht, hl⟩ := Plan.exists_last (gs m) hF.sum (r.val / 256) (by omega)
    have htl := Plan.total_le (gs m) hF.sum
    have hp := Plan.total_pos (gs m) hF.sum
    obtain ⟨k, hk, htk, hfk⟩ : ∃ k, k < 79 ∧ Plan.tile (gs m) k = r.val / 256
        ∧ (k + 1 = 79 ∨ (k + 1 < 79 ∧ Plan.tile (gs m) (k + 1) ≠ Plan.tile (gs m) k)) := by
      by_cases hlast : n + 1 = Plan.total (gs m)
      · refine ⟨78, by omega, ?_, .inl rfl⟩
        have := (outs_past m hF (Plan.total (gs m) - 1) (by omega) (78 - (Plan.total (gs m) - 1)) (by omega)).2
        rw [show Plan.total (gs m) - 1 + (78 - (Plan.total (gs m) - 1)) = 78 by omega, show Plan.total (gs m) - 1 = n by omega] at this
        rw [this, ht]
      · rcases hl with hl | hl
        · exact absurd hl hlast
        · exact ⟨n, by omega, ht, .inr ⟨by omega, hl⟩⟩
    refine ⟨⟨k, hk⟩, (flush_iff m hF ⟨k, hk⟩).mpr hfk, ?_⟩
    have e := emb4 m hF ⟨k, hk⟩ r ⟨r.val % 256, Nat.mod_lt _ (by decide)⟩ j (by show r.val = Plan.tile (gs m) k * 256 + r.val % 256; rw [htk]; omega)
    rw [← e]
    exact View.emb_mem_set _ _

end visits

end Cert.KernelIdeal.Run

end
-- ==== Proof.ReferenceIdealRow.lean ====
/- What the reference's kernel leaves at row `r`, column `j`: the row times its group's weights. -/
module

public import proofs.«01_k».proof.Proof.Gen.ReferenceIdeal.Frame
public import proofs.«01_k».proof.Proof.Spec
public import Idealize.ShloMosaic.Lib.Pointwise
public import Idealize.ShloMosaic.Lib.Pipeline.ValueKit

@[expose] public section

set_option maxRecDepth 16384

noncomputable section

namespace Cert.ReferenceIdeal.Run

open Idealize.ShloMosaic Idealize.ShloMosaic.TcCoe Idealize.ShloMosaic.Tactic Idealize.ShloMosaic.Routing
open Cert.ReferenceIdeal.Gen

/-- Row `r` of `x` times column `j` of one group's weights. -/
def dot (x : Vec Ideal S16384x2816 .fp8e4m3) (w : Vec Ideal S1x2816x2816 .fp8e4m3) (r : Fin 16384) (j : Fin 2816) : EReal :=
  ∑ k : Fin 2816, x (ix2 r k) * w (ix3 (0 : Fin 1) k j)

theorem pay3_at (x : Vec Ideal S16384x2816 .fp8e4m3) (w : Vec Ideal S1x2816x2816 .fp8e4m3) (r : Fin 16384) (j : Fin 2816) :
    k0_pay3 x w (ix2 r j) = dot x w r j := by
  unfold k0_pay3 dot; pointwise
theorem pay6_at (x : Vec Ideal S16384x2816 .fp8e4m3) (w : Vec Ideal S1x2816x2816 .fp8e4m3) (r : Fin 16384) (j : Fin 2816) :
    k0_pay6 x w (ix2 r j) = dot x w r j := by
  unfold k0_pay6 dot; pointwise
theorem pay9_at (x : Vec Ideal S16384x2816 .fp8e4m3) (w : Vec Ideal S1x2816x2816 .fp8e4m3) (r : Fin 16384) (j : Fin 2816) :
    k0_pay9 x w (ix2 r j) = dot x w r j := by
  unfold k0_pay9 dot; pointwise
theorem pay12_at (x : Vec Ideal S16384x2816 .fp8e4m3) (w : Vec Ideal S1x2816x2816 .fp8e4m3) (r : Fin 16384) (j : Fin 2816) :
    k0_pay12 x w (ix2 r j) = dot x w r j := by
  unfold k0_pay12 dot; pointwise
theorem pay15_at (x : Vec Ideal S16384x2816 .fp8e4m3) (w : Vec Ideal S1x2816x2816 .fp8e4m3) (r : Fin 16384) (j : Fin 2816) :
    k0_pay15 x w (ix2 r j) = dot x w r j := by
  unfold k0_pay15 dot; pointwise

/-! The row's group is compared with one group's number. -/

theorem pay4_at (g : Vec Ideal S16384x1 .i32) (r : Fin 16384) :
    k0_pay4 (F := Ideal) g (ix2 r (0 : Fin 1)) = IntOp.cmpi .eq (g (ix2 r (0 : Fin 1))) 2#32 := by
  unfold k0_pay4; pointwise
theorem pay7_at (g : Vec Ideal S16384x1 .i32) (r : Fin 16384) :
    k0_pay7 (F := Ideal) g (ix2 r (0 : Fin 1)) = IntOp.cmpi .eq (g (ix2 r (0 : Fin 1))) 5#32 := by
  unfold k0_pay7; pointwise
theorem pay10_at (g : Vec Ideal S16384x1 .i32) (r : Fin 16384) :
    k0_pay10 (F := Ideal) g (ix2 r (0 : Fin 1)) = IntOp.cmpi .eq (g (ix2 r (0 : Fin 1))) 8#32 := by
  unfold k0_pay10; pointwise
theorem pay13_at (g : Vec Ideal S16384x1 .i32) (r : Fin 16384) :
    k0_pay13 (F := Ideal) g (ix2 r (0 : Fin 1)) = IntOp.cmpi .eq (g (ix2 r (0 : Fin 1))) 11#32 := by
  unfold k0_pay13; pointwise
theorem pay16_at (g : Vec Ideal S16384x1 .i32) (r : Fin 16384) :
    k0_pay16 (F := Ideal) g (ix2 r (0 : Fin 1)) = IntOp.cmpi .eq (g (ix2 r (0 : Fin 1))) 14#32 := by
  unfold k0_pay16; pointwise

/-! The rows of one more group after another are put over what was there. -/

theorem pay2_at (x x' : Vec Ideal S16384x2816 .fp8e4m3) (w w' : Vec Ideal S1x2816x2816 .fp8e4m3) (g g' : Vec Ideal S16384x1 .i32) (r : Fin 16384) (j : Fin 2816) :
    k0_pay2 x w g x' w' g' (ix2 r j) = Scalar.select (IntOp.cmpi .eq (g' (ix2 r (0 : Fin 1))) 1#32) (dot x' w' r j)
      (Scalar.select (IntOp.cmpi .eq (g (ix2 r (0 : Fin 1))) 0#32) (dot x w r j) (0 : EReal)) := by
  unfold k0_pay2 dot; pointwise
theorem pay5_at (a b : FVec Ideal S16384x2816 .f32) (c : IVec S16384x1 1) (x x' : Vec Ideal S16384x2816 .fp8e4m3)
    (w w' : Vec Ideal S1x2816x2816 .fp8e4m3) (g g' : Vec Ideal S16384x1 .i32) (r : Fin 16384) (j : Fin 2816) :
    k0_pay5 a b c x w g x' w' g' (ix2 r j) = Scalar.select (IntOp.cmpi .eq (g' (ix2 r (0 : Fin 1))) 4#32) (dot x' w' r j)
      (Scalar.select (IntOp.cmpi .eq (g (ix2 r (0 : Fin 1))) 3#32) (dot x w r j) (Scalar.select (c (ix2 r (0 : Fin 1))) (b (ix2 r j)) (a (ix2 r j)))) := by
  unfold k0_pay5 dot; pointwise
theorem pay8_at (a b : FVec Ideal S16384x2816 .f32) (c : IVec S16384x1 1) (x x' : Vec Ideal S16384x2816 .fp8e4m3)
    (w w' : Vec Ideal S1x2816x2816 .fp8e4m3) (g g' : Vec Ideal S16384x1 .i32) (r : Fin 16384) (j : Fin 2816) :
    k0_pay8 a b c x w g x' w' g' (ix2 r j) = Scalar.select (IntOp.cmpi .eq (g' (ix2 r (0 : Fin 1))) 7#32) (dot x' w' r j)
      (Scalar.select (IntOp.cmpi .eq (g (ix2 r (0 : Fin 1))) 6#32) (dot x w r j) (Scalar.select (c (ix2 r (0 : Fin 1))) (b (ix2 r j)) (a (ix2 r j)))) := by
  unfold k0_pay8 dot; pointwise
theorem pay11_at (a b : FVec Ideal S16384x2816 .f32) (c : IVec S16384x1 1) (x x' : Vec Ideal S16384x2816 .fp8e4m3)
    (w w' : Vec Ideal S1x2816x2816 .fp8e4m3) (g g' : Vec Ideal S16384x1 .i32) (r : Fin 16384) (j : Fin 2816) :
    k0_pay11 a b c x w g x' w' g' (ix2 r j) = Scalar.select (IntOp.cmpi .eq (g' (ix2 r (0 : Fin 1))) 10#32) (dot x' w' r j)
      (Scalar.select (IntOp.cmpi .eq (g (ix2 r (0 : Fin 1))) 9#32) (dot x w r j) (Scalar.select (c (ix2 r (0 : Fin 1))) (b (ix2 r j)) (a (ix2 r j)))) := by
  unfold k0_pay11 dot; pointwise
theorem pay14_at (a b : FVec Ideal S16384x2816 .f32) (c : IVec S16384x1 1) (x x' : Vec Ideal S16384x2816 .fp8e4m3)
    (w w' : Vec Ideal S1x2816x2816 .fp8e4m3) (g g' : Vec Ideal S16384x1 .i32) (r : Fin 16384) (j : Fin 2816) :
    k0_pay14 a b c x w g x' w' g' (ix2 r j) = Scalar.select (IntOp.cmpi .eq (g' (ix2 r (0 : Fin 1))) 13#32) (dot x' w' r j)
      (Scalar.select (IntOp.cmpi .eq (g (ix2 r (0 : Fin 1))) 12#32) (dot x w r j) (Scalar.select (c (ix2 r (0 : Fin 1))) (b (ix2 r j)) (a (ix2 r j)))) := by
  unfold k0_pay14 dot; pointwise
theorem pay1_at (a b : FVec Ideal S16384x2816 .f32) (c : IVec S16384x1 1) (x : Vec Ideal S16384x2816 .fp8e4m3)
    (w : Vec Ideal S1x2816x2816 .fp8e4m3) (g : Vec Ideal S16384x1 .i32) (r : Fin 16384) (j : Fin 2816) :
    k0_pay1 a b c x w g (ix2 r j) = Scalar.select (IntOp.cmpi .eq (g (ix2 r (0 : Fin 1))) 15#32) (dot x w r j)
      (Scalar.select (c (ix2 r (0 : Fin 1))) (b (ix2 r j)) (a (ix2 r j))) := by
  unfold k0_pay1 dot; pointwise

/-- The row times group `g`'s weights. -/
def slab (x : Vec Ideal S16384x2816 .fp8e4m3) (w : Vec Ideal S16x2816x2816 .fp8e4m3) (r : Fin 16384) (j : Fin 2816) (g : Fin 16) : EReal :=
  ∑ k : Fin 2816, x (ix2 r k) * w (ix3 g k j)

/-- One group's weights cut out of all of them. -/
theorem dot_slab (x : Vec Ideal S16384x2816 .fp8e4m3) (w : Vec Ideal S16x2816x2816 .fp8e4m3) (n : ℕ) (hn : n < 16)
    (inb : ∀ a, (![n, 0, 0] : Fin 3 → ℕ) a + S1x2816x2816.size a ≤ S16x2816x2816.size a) (r : Fin 16384) (j : Fin 2816) :
    dot x (View.ld w (Rect.unit (s := S16x2816x2816) ![n, 0, 0] S1x2816x2816.size inb)) r j = slab x w r j ⟨n, hn⟩ := by
  refine Finset.sum_congr rfl fun k _ => congrArg (x (ix2 r k) * ·) ?_
  refine View.ld_unit_apply_of w _ _ inb (ix3 (0 : Fin 1) k j) (ix3 ⟨n, hn⟩ k j) fun a => ?_
  fin_cases a
  · rfl
  · show k.val = 0 + k.val; omega
  · show j.val = 0 + j.val; omega

theorem zeros2 : (![0, 0] : Fin 2 → ℕ) = fun _ => 0 := by funext a; fin_cases a <;> rfl

theorem pick_self {α : Type} (n : BitVec 32) (y z : α) : Scalar.select (IntOp.cmpi .eq n n) y z = y := by
  simp [Scalar.select, IntOp.cmpi]
theorem pick_ne {α : Type} (n k : BitVec 32) (h : n ≠ k) (y z : α) : Scalar.select (IntOp.cmpi .eq n k) y z = z := by
  have e : (n == k) = false := by simpa using h
  simp [Scalar.select, IntOp.cmpi, e]

/-- Comparing a group's number with every group's in turn picks its own. -/
theorem pick_group (P : Fin 16 → EReal) (w : BitVec 32) (g : Fin 16) (h : w = BitVec.ofNat 32 g.val) :
    Scalar.select (IntOp.cmpi .eq w 15#32) (P 15) (Scalar.select (IntOp.cmpi .eq w 14#32) (P 14) (Scalar.select (IntOp.cmpi .eq w 13#32) (P 13) (Scalar.select (IntOp.cmpi .eq w 12#32) (P 12) (Scalar.select (IntOp.cmpi .eq w 11#32) (P 11) (Scalar.select (IntOp.cmpi .eq w 10#32) (P 10) (Scalar.select (IntOp.cmpi .eq w 9#32) (P 9) (Scalar.select (IntOp.cmpi .eq w 8#32) (P 8) (Scalar.select (IntOp.cmpi .eq w 7#32) (P 7) (Scalar.select (IntOp.cmpi .eq w 6#32) (P 6) (Scalar.select (IntOp.cmpi .eq w 5#32) (P 5) (Scalar.select (IntOp.cmpi .eq w 4#32) (P 4) (Scalar.select (IntOp.cmpi .eq w 3#32) (P 3) (Scalar.select (IntOp.cmpi .eq w 2#32) (P 2) (Scalar.select (IntOp.cmpi .eq w 1#32) (P 1) (Scalar.select (IntOp.cmpi .eq w 0#32) (P 0) (0 : EReal)))))))))))))))) = P g := by
  subst h
  fin_cases g <;> simp (disch := decide) only [pick_self, pick_ne] <;> rfl

/-- A row of group `g` ends as the row times the group's weights. -/
theorem out_at (x0 : Vec Ideal S16384x1 .i32) (x1 : Vec Ideal S16384x2816 .fp8e4m3) (x2 : Vec Ideal S16x2816x2816 .fp8e4m3)
    (r : Fin 16384) (j : Fin 2816) (g : Fin 16) (h : x0 (ix2 r (0 : Fin 1)) = BitVec.ofNat 32 g.val) :
    out0_3 x0 x1 x2 (ix2 r j) = slab x1 x2 r j g := by
  have e0 : View.ld x0 r0_2 = x0 := View.ld_unit_zero zeros2 _ x0
  have e1 : View.ld x1 r0_0 = x1 := View.ld_unit_zero zeros2 _ x1
  have d0 : dot x1 (View.ld x2 r0_1) r j = slab x1 x2 r j 0 := dot_slab x1 x2 0 (by decide) _ r j
  have d1 : dot x1 (View.ld x2 r0_3) r j = slab x1 x2 r j 1 := dot_slab x1 x2 1 (by decide) _ r j
  have d2 : dot x1 (View.ld x2 r0_4) r j = slab x1 x2 r j 2 := dot_slab x1 x2 2 (by decide) _ r j
  have d3 : dot x1 (View.ld x2 r0_5) r j = slab x1 x2 r j 3 := dot_slab x1 x2 3 (by decide) _ r j
  have d4 : dot x1 (View.ld x2 r0_6) r j = slab x1 x2 r j 4 := dot_slab x1 x2 4 (by decide) _ r j
  have d5 : dot x1 (View.ld x2 r0_7) r j = slab x1 x2 r j 5 := dot_slab x1 x2 5 (by decide) _ r j
  have d6 : dot x1 (View.ld x2 r0_8) r j = slab x1 x2 r j 6 := dot_slab x1 x2 6 (by decide) _ r j
  have d7 : dot x1 (View.ld x2 r0_9) r j = slab x1 x2 r j 7 := dot_slab x1 x2 7 (by decide) _ r j
  have d8 : dot x1 (View.ld x2 r0_10) r j = slab x1 x2 r j 8 := dot_slab x1 x2 8 (by decide) _ r j
  have d9 : dot x1 (View.ld x2 r0_11) r j = slab x1 x2 r j 9 := dot_slab x1 x2 9 (by decide) _ r j
  have d10 : dot x1 (View.ld x2 r0_12) r j = slab x1 x2 r j 10 := dot_slab x1 x2 10 (by decide) _ r j
  have d11 : dot x1 (View.ld x2 r0_13) r j = slab x1 x2 r j 11 := dot_slab x1 x2 11 (by decide) _ r j
  have d12 : dot x1 (View.ld x2 r0_14) r j = slab x1 x2 r j 12 := dot_slab x1 x2 12 (by decide) _ r j
  have d13 : dot x1 (View.ld x2 r0_15) r j = slab x1 x2 r j 13 := dot_slab x1 x2 13 (by decide) _ r j
  have d14 : dot x1 (View.ld x2 r0_16) r j = slab x1 x2 r j 14 := dot_slab x1 x2 14 (by decide) _ r j
  have d15 : dot x1 (View.ld x2 r0_17) r j = slab x1 x2 r j 15 := dot_slab x1 x2 15 (by decide) _ r j
  unfold out0_3
  rw [View.canon_unit_zero zeros2, e0, e1]
  rw [pay1_at, pay14_at, pay11_at, pay8_at, pay5_at, pay2_at, pay3_at, pay4_at, pay6_at, pay7_at, pay9_at, pay10_at, pay12_at, pay13_at, pay15_at, pay16_at,
    d0, d1, d2, d3, d4, d5, d6, d7, d8, d9, d10, d11, d12, d13, d14, d15]
  exact pick_group (slab x1 x2 r j) _ g h

end Cert.ReferenceIdeal.Run

end
-- ==== Proof.RowGroups.lean ====
/- The group of each row, as the reference's host lines find it in 32-bit words, and the row of a table taken by it. -/
module

public import proofs.«01_k».proof.Proof.Words
public import Idealize.ShloMosaic.Lib.ReduceAll

@[expose] public section

noncomputable section

namespace RowGroups

open Idealize.ShloMosaic Idealize.ShloMosaic.ValueIdx Idealize.ShloMosaic.Routing Idealize.ShloMosaic.WordCmp

/-! ## The host's lines -/

/-- The group of each row: how many groups end at or before it. -/
def rows (a : IVec (shape1 16) 32) : IVec (shape1 16384) 32 :=
  Host.reduce IntOp.addi
    (extui 32 (cmpi .sle
      (broadcastInDim (shape2 16 16384) ![0, 1] (by decide) (broadcastInDim (shape2 16 1) ![0] (by decide) (Words.ends a)))
      (broadcastInDim (shape2 16 16384) ![0, 1] (by decide) (broadcastInDim (shape2 1 16384) ![1] (by decide) (iotaInDim (shape1 16384) 32 0)))) (by decide))
    (constantI shape0 32 0#32) (by decide : (shape2 16 16384).ReducesTo [0] (shape1 16384)) (by decide)

/-- The same, no more than the last group. -/
def capped (a : IVec (shape1 16) 32) : IVec (shape1 16384) 32 :=
  minsi (rows a) (broadcastInDim (shape1 16384) ![] (by decide) (constantI shape0 32 15#32))

/-- The rows' groups as a column. -/
def asColumn (g : IVec (shape1 16384) 32) : IVec (shape2 16384 1) 32 := broadcastInDim (shape2 16384 1) ![0] (by decide) g

/-- The index column the groups make, negative ones counted from the end. -/
def column (g : IVec (shape1 16384) 32) : IVec (shape2 16384 1) 32 :=
  asColumn
    (select (cmpi .slt g (broadcastInDim (shape1 16384) ![] (by decide) (constantI shape0 32 0#32)))
      (addi g (broadcastInDim (shape1 16384) ![] (by decide) (constantI shape0 32 16#32))) g)

/-- Which indices of a column name one of the 16 rows of the table. -/
def inTable (i : IVec (shape2 16384 1) 32) : IVec (shape1 16384) 1 :=
  Host.reduce IntOp.andi
    (andi (cmpi .sge i (broadcastInDim (shape2 16384 1) ![] (by decide) (constantI shape0 32 0#32)))
      (cmpi .sle i (broadcastInDim (shape2 16384 1) ![0, 1] (by decide) (broadcastInDim (shape2 1 1) ![1] (by decide) (constantI (shape1 1) 32 15#32)))))
    (constantI shape0 1 1#1) (by decide : (shape2 16384 1).ReducesTo [1] (shape1 16384)) (by decide)

/-- The dimensions of taking one row of a table of 16 at each of the 16384 indices. -/
def takeDims : GatherDims (shape2 16 2816) (shape2 16384 1) (shape2 16384 2816) where
  offsetDims := [1]
  collapsedSliceDims := [0]
  operandBatchingDims := []
  startIndicesBatchingDims := []
  startIndexMap := [0]
  indexVectorDim := 1
  sliceSizes := ![1, 2816]
  wf := by decide

/-- The table's row at each row's group, and `z` where the group names none. -/
def taken {α : Type} (x : (shape2 16 2816).Idx → α) (g : IVec (shape1 16384) 32) (z : (shape2 16384 2816).Idx → α) : (shape2 16384 2816).Idx → α :=
  select (broadcastInDim (shape2 16384 2816) ![0] (by decide) (inTable (column g))) (Host.gather takeDims x (column g)) z

/-! ## What they hold -/

theorem rows_ap (a : IVec (shape1 16) 32) (gs : ℕ → ℕ) (ha : ∀ k : Fin 16, a (ix1 k) = BitVec.ofNat 32 (gs k.val))
    (hsum : Plan.pre gs 16 = 16384) (r : Fin 16384) :
    rows a (ix1 r) = BitVec.ofNat 32 (Nat.count (fun k => Plan.pre gs (k + 1) ≤ r.val) 16) := by
  apply BitVec.eq_of_toNat_eq
  unfold rows
  refine (StableHlo.Predicate.toNat_reduce_count_rows (by norm_num) _ _ _ _ (ix1 r)).trans ?_
  rw [BitVec.toNat_ofNat, Nat.mod_eq_of_lt (lt_of_le_of_lt (Nat.count_le _) (by norm_num)), ← card_filter_fin 16]
  refine congrArg Finset.card (Finset.filter_congr fun k _ => ?_)
  rw [ij_eq_ix2, cmpi_at]
  show IntOp.cmpi .sle (broadcastInDim (shape2 16 16384) ![0, 1] _ (broadcastInDim (shape2 16 1) ![0] _ (Words.ends a)) (ix2 k r)) (broadcastInDim (shape2 16 16384) ![0, 1] _ (broadcastInDim (shape2 1 16384) ![1] _ (iotaInDim (shape1 16384) 32 0)) (ix2 k r)) = 1#1 ↔ _
  have h4 : Plan.pre gs (k.val + 1) ≤ 16384 := hsum ▸ Plan.pre_mono gs (show k.val + 1 ≤ 16 by omega)
  rw [bcRows, bcCols, Words.ends_ap a gs ha]
  show BitVec.ofBool ((BitVec.ofNat 32 _).sle (BitVec.ofNat 32 r.val)) = 1#1 ↔ _
  rw [sle_ofNat32 (a := Plan.pre gs (k.val + 1)) (b := r.val) (by omega) (by omega)]
  by_cases h : Plan.pre gs (k.val + 1) ≤ r.val
  · rw [decide_eq_true h]; exact ⟨fun _ => h, fun _ => rfl⟩
  · rw [decide_eq_false h]; exact ⟨fun e => absurd e (by decide), fun e => absurd e h⟩

theorem capped_ap (a : IVec (shape1 16) 32) (r : Fin 16384) (g : Fin 16) (h : rows a (ix1 r) = BitVec.ofNat 32 g.val) :
    capped a (ix1 r) = BitVec.ofNat 32 g.val := by
  unfold capped
  show IntOp.minsi (rows a (ix1 r)) (broadcastInDim (shape1 16384) ![] _ (constantI shape0 32 15#32) (ix1 r)) = _
  rw [bc0, h, constantI_at, show (15#32 : BitVec 32) = BitVec.ofNat 32 15 from rfl]
  unfold IntOp.minsi
  rw [slt_ofNat32 (by omega) (by omega)]
  by_cases h : g.val < 15
  · rw [decide_eq_true h]; rfl
  · rw [decide_eq_false h, show g.val = 15 by omega]; rfl

theorem asColumn_ap (g : IVec (shape1 16384) 32) (r : Fin 16384) : asColumn g (ix2 r (0 : Fin 1)) = g (ix1 r) := bcCol _ _ _

theorem column_ap (g : IVec (shape1 16384) 32) (r : Fin 16384) (b : Fin 16) (h : g (ix1 r) = BitVec.ofNat 32 b.val) :
    column g (ix2 r (0 : Fin 1)) = BitVec.ofNat 32 b.val := by
  unfold column
  rw [asColumn_ap, select_at, cmpi_at, bc0, constantI_at, h]
  have hc : IntOp.cmpi .slt (BitVec.ofNat 32 b.val) 0#32 = 0#1 := by
    show BitVec.ofBool ((BitVec.ofNat 32 b.val).slt (BitVec.ofNat 32 0)) = 0#1
    rw [slt_ofNat32 (by omega) (by norm_num)]; rfl
  rw [hc]
  rfl

/-- Where every index names one of the table's rows, all are in range. -/
theorem inTable_ap (i : IVec (shape2 16384 1) 32) (b : Fin 16384 → Fin 16) (h : ∀ r, i (ix2 r (0 : Fin 1)) = BitVec.ofNat 32 (b r).val) (r : Fin 16384) :
    inTable i (ix1 r) = 1#1 := by
  unfold inTable
  refine Host.reduce_andi_one _ _ _ _ _ rfl fun y => ?_
  obtain ⟨q, rfl⟩ : ∃ q : Fin 16384, y = ix2 q (0 : Fin 1) :=
    ⟨y 0, funext fun e => match e with | ⟨0, _⟩ => rfl | ⟨1, _⟩ => Subsingleton.elim (α := Fin 1) _ _⟩
  have e15 : broadcastInDim (shape2 16384 1) ![0, 1] (by decide) (broadcastInDim (shape2 1 1) ![1] (by decide) (constantI (shape1 1) 32 15#32))
      (ix2 q (0 : Fin 1)) = 15#32 := rfl
  have h0 : IntOp.cmpi .sge (BitVec.ofNat 32 (b q).val) 0#32 = 1#1 := by
    show BitVec.ofBool ((BitVec.ofNat 32 0).sle (BitVec.ofNat 32 (b q).val)) = 1#1
    rw [sle_ofNat32 (by norm_num) (by omega), decide_eq_true (Nat.zero_le _)]; rfl
  have h1 : IntOp.cmpi .sle (BitVec.ofNat 32 (b q).val) 15#32 = 1#1 := by
    show BitVec.ofBool ((BitVec.ofNat 32 (b q).val).sle (BitVec.ofNat 32 15)) = 1#1
    rw [sle_ofNat32 (by omega) (by norm_num), decide_eq_true (by omega)]; rfl
  rw [andi_at, cmpi_at, cmpi_at, bc0, constantI_at, e15, h, h0, h1]
  rfl

theorem taken_ap {α : Type} (x : (shape2 16 2816).Idx → α) (g : IVec (shape1 16384) 32) (z : (shape2 16384 2816).Idx → α)
    (b : Fin 16384 → Fin 16) (h : ∀ r, g (ix1 r) = BitVec.ofNat 32 (b r).val) (r : Fin 16384) (j : Fin 2816) :
    taken x g z (ix2 r j) = x (ix2 (b r) j) := by
  have hc : ∀ r, column g (ix2 r (0 : Fin 1)) = BitVec.ofNat 32 (b r).val := fun r => column_ap g r (b r) (h r)
  unfold taken
  have hm : broadcastInDim (shape2 16384 2816) ![0] (by decide) (inTable (column g)) (ix2 r j) = 1#1 := by
    refine (broadcastInDim_apply _ _ _ _ (ix1 r) fun e => ?_).trans (inTable_ap _ b hc r)
    match e with
    | ⟨0, _⟩ => rfl
  rw [select_at, hm, gather_row takeDims rfl rfl rfl rfl rfl x (column g) r j (b r) (hc r) (by norm_num)]
  rfl

end RowGroups

end
-- ==== Proof.ReferenceIdealRead.lean ====
/- The reference's host lines around its kernel, read off: the groups it hands to the kernel, and its result from the kernel's
   array. -/
module

public import proofs.«01_k».proof.Proof.Gen.ReferenceIdeal.Frame
public import proofs.«01_k».proof.Proof.RowGroups
public import proofs.«01_k».proof.Proof.Spec
public import Idealize.ShloMosaic.Lib.StableHlo.RunRead

@[expose] public section

set_option maxRecDepth 16384

noncomputable section

namespace Cert.ReferenceIdeal.Run

open Idealize.ShloMosaic Idealize.ShloMosaic.TcCoe Idealize.ShloMosaic.Tactic Idealize.ShloMosaic.Routing
open Cert.ReferenceIdeal.Gen

variable (m : (ℓ : Loc nD τ sig) → Buf (Elt Ideal) ℓ)

/-- The rows, their scales, the group sizes, the weights and their scales the program is given. -/
def xA : Spec.Rows := m (((0 : Dev nD) : Thread nD τ).loc main_arg0)
def xsA : Spec.RowScales := m (((0 : Dev nD) : Thread nD τ).loc main_arg1)
def sizes : IVec (shape1 16) 32 := m (((0 : Dev nD) : Thread nD τ).loc main_arg2)
def wA : Spec.Weights := m (((0 : Dev nD) : Thread nD τ).loc main_arg3)
def wsA : Spec.WeightScales := m (((0 : Dev nD) : Thread nD τ).loc main_arg4)

/-- The column of groups the kernel is given. -/
theorem V_column : V m (0 : Dev nD) main_v5 = RowGroups.asColumn (RowGroups.rows (sizes m)) := by
  simp only [V, V0, hostOps0, hostOps0_1, hostOps0_2, hostOps0_3,
    List.flatten_cons, List.flatten_nil, List.append_nil, List.cons_append, List.nil_append]
  after_reads_simp
  simp -implicitDefEqProofs only [StableHlo.TRef.toBuf, StableHlo.TRef.ofBuf, cast_cast, cast_eq]
  rfl

/-- The groups the weights' scales are taken by. -/
theorem V_capped : V m (0 : Dev nD) main_v4 = RowGroups.capped (sizes m) := by
  simp only [V, V0, hostOps0, hostOps0_1, hostOps0_2, hostOps0_3,
    List.flatten_cons, List.flatten_nil, List.append_nil, List.cons_append, List.nil_append]
  after_reads_simp
  simp -implicitDefEqProofs only [StableHlo.TRef.toBuf, StableHlo.TRef.ofBuf, cast_cast, cast_eq]
  rfl

/-- What the last host lines make of the kernel's array `y`: each row times its scale, times the scales of its group. -/
def scaled (y : Vec Ideal S16384x2816 .f32) (xs : Spec.RowScales) (ws : Spec.WeightScales) (g : IVec (shape1 16384) 32) : Vec Ideal S16384x2816 .bf16 :=
  truncf .bf16
    (mulf (F := Ideal)
      (mulf (F := Ideal) y (broadcastInDim S16384x2816 ![0, 1] bcast_S16384x1_S16384x2816_0_1 (broadcastInDim S16384x1 ![0] bcast_S16384_S16384x1_0 xs)))
      (RowGroups.taken ws g (broadcastInDim S16384x2816 ![] bcast_S_S16384x2816 (constant (F := Ideal) S_ .f32 0x7FC00000#32))))
    bitsLt_bf16_f32

theorem tail_read (W : Valuation τ sig (Elt Ideal)) :
    StableHlo.after (List.flatten [hostOps1, hostOps1_1, hostOps1_2]) W (Proc.devRef .tc main_v12)
      = scaled (W (Proc.devRef .tc main_v6)) (W (Proc.devRef .tc main_arg1)) (W (Proc.devRef .tc main_arg4)) (W (Proc.devRef .tc main_v4)) := by
  simp only [hostOps1, hostOps1_1, hostOps1_2, List.flatten_cons, List.flatten_nil, List.append_nil, List.cons_append, List.nil_append]
  after_reads_simp
  simp -implicitDefEqProofs only [StableHlo.TRef.toBuf, StableHlo.TRef.ofBuf, cast_cast, cast_eq]
  rfl

/-- The result, from the kernel's array. -/
theorem result_read :
    Pipeline.afterTail₀ cfgs (dats m) 0 (V0 m) [hostOps1, hostOps1_1, hostOps1_2] (0 : Dev nD) main_v12
      = scaled ((dats m 0 (0 : Dev nD)).arrAt 3 cfg0.N) (xsA m) (wsA m) (RowGroups.capped (sizes m)) := by
  unfold Pipeline.afterTail₀
  refine (tail_read _).trans ?_
  rw [Pipeline.withArrays_of_ne _ (0 : Dev nD) (V0 m (0 : Dev nD)) _ main_arg1 (by exact (by decide : ∀ w, Pipeline.arrRef spec0 w ≠ main_arg1)),
    Pipeline.withArrays_of_ne _ (0 : Dev nD) (V0 m (0 : Dev nD)) _ main_arg4 (by exact (by decide : ∀ w, Pipeline.arrRef spec0 w ≠ main_arg4)),
    Pipeline.withArrays_of_ne _ (0 : Dev nD) (V0 m (0 : Dev nD)) _ main_v4 (by exact (by decide : ∀ w, Pipeline.arrRef spec0 w ≠ main_v4))]
  have e6 := Pipeline.withArrays_arr (cfgs 0).spec launch0.win.arr_inj (0 : Dev nD) (V0 m (0 : Dev nD)) (fun w => (dats m 0 (0 : Dev nD)).arrAt w (cfgs 0).N) 3
  have e1 : V0 m (0 : Dev nD) (Proc.devRef .tc main_arg1) = xsA m := V_main_arg1 m 0
  have e4 : V0 m (0 : Dev nD) (Proc.devRef .tc main_arg4) = wsA m := V_main_arg4 m 0
  have ec : V0 m (0 : Dev nD) (Proc.devRef .tc main_v4) = RowGroups.capped (sizes m) := V_capped m
  rw [e1, e4, ec]
  exact congrArg (fun y => scaled y (xsA m) (wsA m) (RowGroups.capped (sizes m))) e6

end Cert.ReferenceIdeal.Run

end
-- ==== Proof.ReferenceIdealValue.lean ====
/- What the reference computes: its result is `Spec.out` of its arguments, where the group sizes fill the rows. -/
module

public import proofs.«01_k».proof.Proof.ReferenceIdealRow
public import proofs.«01_k».proof.Proof.ReferenceIdealRead
public import proofs.«01_k».proof.Proof.Fill

@[expose] public section

set_option maxRecDepth 16384

noncomputable section

namespace Cert.ReferenceIdeal.Run

open Idealize.ShloMosaic Idealize.ShloMosaic.TcCoe Idealize.ShloMosaic.Tactic Idealize.ShloMosaic.Routing
open Cert.ReferenceIdeal.Gen

variable (m : (ℓ : Loc nD τ sig) → Buf (Elt Ideal) ℓ)

/-- The naturals in the sizes, and the group of each row. -/
abbrev gs : ℕ → ℕ := Fill.nats (sizes m)
abbrev rowGroup (r : Fin 16384) : Fin 16 := Spec.grp (gs m) r.val

variable (hF : Fill.Fills (sizes m))

include hF in
theorem rows_at (r : Fin 16384) : RowGroups.rows (sizes m) (ix1 r) = BitVec.ofNat 32 (rowGroup m r).val := by
  rw [(Spec.grp_val (gs m) hF.sum r.val r.isLt).1]
  exact RowGroups.rows_ap (sizes m) (gs m) (Fill.nats_ap _) hF.sum r

include hF in
theorem capped_at (r : Fin 16384) : RowGroups.capped (sizes m) (ix1 r) = BitVec.ofNat 32 (rowGroup m r).val :=
  RowGroups.capped_ap (sizes m) r (rowGroup m r) (rows_at m hF r)

/-! ## The kernel's array -/

/-- Each window is at block zero, which is its whole array. -/
theorem idx0 (t : Fin cfg0.N) (a : Fin 2) : win0_0.index t a = 0 := rfl
theorem idx1 (t : Fin cfg0.N) (a : Fin 2) : win0_1.index t a = 0 := rfl
theorem idx2 (t : Fin cfg0.N) (a : Fin 3) : win0_2.index t a = 0 := rfl
theorem idx3 (t : Fin cfg0.N) (a : Fin 2) : win0_3.index t a = 0 := rfl

theorem blk0 (t : Fin cfg0.N) : (iblk m (0 : Dev nD) 0 t : Vec Ideal S16384x1 .i32) = RowGroups.asColumn (RowGroups.rows (sizes m)) := by
  refine Eq.trans (b := V m (0 : Dev nD) main_v5) ?_ (V_column m)
  generalize hV : V m (0 : Dev nD) = W
  unfold iblk
  rw [hV]
  blk_ext! [idx0 t]
theorem blk1 (t : Fin cfg0.N) : (iblk m (0 : Dev nD) 1 t : Vec Ideal S16384x2816 .fp8e4m3) = xA m := by
  refine Eq.trans ?_ (V_main_arg0 m 0)
  blk_ext! [iblk, idx1 t]
theorem blk2 (t : Fin cfg0.N) : (iblk m (0 : Dev nD) 2 t : Vec Ideal S16x2816x2816 .fp8e4m3) = wA m := by
  refine Eq.trans ?_ (V_main_arg3 m 0)
  blk_ext! [iblk, idx2 t]

theorem emb3 (t : Fin cfg0.N) (r : Fin 16384) (j : Fin 2816) :
    (win0_3.blk t).view.emb (ix2 r j) = (ix2 r j : (⟨2, ![16384, 2816]⟩ : Shape).Idx) := by
  refine funext fun a => Fin.ext ?_
  refine (win0_3.rect_emb_val_off t (ix2 r j) a).trans ?_
  fin_cases a
  · exact (by omega : 0 * 16384 + r.val = r.val)
  · exact (by omega : 0 * 2816 + j.val = j.val)

/-- Each row times its group's weights. -/
def products (gr : Fin 16384 → Fin 16) : Vec Ideal (shape2 16384 2816) .f32 := fun i => slab (xA m) (wA m) (i 0) (i 1) (gr (i 0))

include hF in
/-- The kernel's array: each row times its group's weights. -/
theorem region_eq : (dats m 0 (0 : Dev nD)).arrAt 3 cfg0.N = products m (rowGroup m) := by
  refine (dats m 0 (0 : Dev nD)).arrAt_eq_of_covers 3 _ (by decide +kernel) fun t hf y => ?_
  blk_simp
  rw [after0_3, blk0, blk1, blk2]
  obtain ⟨r, j, rfl⟩ : ∃ (r : Fin 16384) (j : Fin 2816), y = (ix2 r j : (⟨2, ![16384, 2816]⟩ : Shape).Idx) :=
    have h : ∀ z : (⟨2, ![16384, 2816]⟩ : Shape).Idx, ∃ (r : Fin 16384) (j : Fin 2816), z = ix2 r j := fun z => ⟨z 0, z 1, eq_ix2 z⟩
    h y
  refine (out_at _ (xA m) (wA m) r j (rowGroup m r) ?_).trans (congrArg (products m (rowGroup m)) (emb3 t r j)).symm
  exact (RowGroups.asColumn_ap _ r).trans (rows_at m hF r)

/-! ## The result -/

theorem scaled_at (y : Vec Ideal S16384x2816 .f32) (b : Fin 16384 → Fin 16) (g : IVec (shape1 16384) 32)
    (h : ∀ r : Fin 16384, g (ix1 r) = BitVec.ofNat 32 (b r).val) (r : Fin 16384) (j : Fin 2816) :
    scaled y (xsA m) (wsA m) g (ix2 r j) = (y (ix2 r j) * xsA m (ix1 r)) * wsA m (ix2 (b r) j) := by
  have e := RowGroups.taken_ap (wsA m) g (broadcastInDim S16384x2816 ![] bcast_S_S16384x2816 (constant (F := Ideal) S_ .f32 0x7FC00000#32)) b h r j
  unfold scaled
  generalize RowGroups.taken (wsA m) g _ = w at e ⊢
  refine Eq.trans ?_ (congrArg (fun z => (y (ix2 r j) * xsA m (ix1 r)) * z) e)
  pointwise
  rfl

include hF in
theorem result_eq : Pipeline.afterTail₀ cfgs (dats m) 0 (V0 m) [hostOps1, hostOps1_1, hostOps1_2] (0 : Dev nD) main_v12
    = Spec.out (gs m) (xA m) (xsA m) (wA m) (wsA m) := by
  refine (result_read m).trans ?_
  rw [region_eq m hF]
  funext i
  obtain ⟨r, j, rfl⟩ : ∃ (r : Fin 16384) (j : Fin 2816), i = (ix2 r j : (⟨2, ![16384, 2816]⟩ : Shape).Idx) :=
    have h : ∀ z : (⟨2, ![16384, 2816]⟩ : Shape).Idx, ∃ (r : Fin 16384) (j : Fin 2816), z = ix2 r j := fun z => ⟨z 0, z 1, eq_ix2 z⟩
    h i
  exact scaled_at m _ (rowGroup m) _ (capped_at m hF) r j

end Cert.ReferenceIdeal.Run

end
-- ==== Proof.Equation.lean ====
/- The equation: from memories that agree on the arguments, the kernel and the reference both end with `Spec.out` of them. -/
module

public import proofs.«01_k».proof.Defs
public import proofs.«01_k».proof.Proof.KernelIdealValue
public import proofs.«01_k».proof.Proof.ReferenceIdealValue

@[expose] public section

noncomputable section

namespace Equation

open Idealize.ShloMosaic Idealize.ShloMosaic.TcCoe Idealize.SL.Sem

section kernel
open Cert.KernelIdeal Cert.KernelIdeal.Gen Cert.KernelIdeal.Run

/-- The kernel runs, and ends with `Spec.out` of its arguments, which it leaves as they were. -/
theorem kernel_run (m : (ℓ : Loc nD τ sig) → Buf (Elt Ideal) ℓ) (g : Dev nD → PrngReg) (hF : Fill.Fills (sizes m)) :
    θ_run (defs (F := Ideal)) (onTc (τ := τ) (main (F := Ideal))) ⟨m, fun _ => 0, g⟩ (fun r => ∀ c : Dev nD,
      r.2.mem ((c.tc : Thread nD τ).loc main_v39) = Spec.out (gs m) (xA m) (xsA m) (wA m) (wsA m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, args_of m (ok m hF) r h.1 c⟩) (run_main m g (ok m hF) (tabOK m hF))
  obtain rfl : c = (0 : Dev nD) := Subsingleton.elim (α := Fin 1) _ _
  exact ((h.1 (0 : Dev nD)).1 4).trans (arr_eq m hF)

end kernel

section reference
open Cert.ReferenceIdeal Cert.ReferenceIdeal.Gen Cert.ReferenceIdeal.Run

/-- The reference runs, and ends with `Spec.out` of its arguments, which it leaves as they were. -/
theorem reference_run (m : (ℓ : Loc nD τ sig) → Buf (Elt Ideal) ℓ) (g : Dev nD → PrngReg) (hF : Fill.Fills (sizes m)) :
    θ_run (defs (F := Ideal)) (onTc (τ := τ) (main (F := Ideal))) ⟨m, fun _ => 0, g⟩ (fun r => ∀ c : Dev nD,
      r.2.mem ((c.tc : Thread nD τ).loc main_v12) = Spec.out (gs m) (xA m) (xsA m) (wA m) (wsA m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, h.2 c⟩) (θ_run_and (run_main m g) (unchanged m g))
  obtain rfl : c = (0 : Dev nD) := Subsingleton.elim (α := Fin 1) _ _
  exact ((h.1 (0 : Dev nD)).2 main_v12 (Pipeline.mem_restRefs_of main_v12 (by decide) (by decide))).trans (result_eq m hF)

end reference

/-- The claim, from the group sizes filling the rows. -/
theorem algebraic (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hF : Fill.Fills (Cert.KernelIdeal.Run.sizes m))
    (hargs : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) := by
  obtain ⟨h0, h1, h2, h3, h4⟩ := hargs (0 : Dev Cert.KernelIdeal.nD)
  have ex : Cert.ReferenceIdeal.Run.xA m' = Cert.KernelIdeal.Run.xA m := h0
  have exs : Cert.ReferenceIdeal.Run.xsA m' = Cert.KernelIdeal.Run.xsA m := h1
  have es : Cert.ReferenceIdeal.Run.sizes m' = Cert.KernelIdeal.Run.sizes m := h2
  have ew : Cert.ReferenceIdeal.Run.wA m' = Cert.KernelIdeal.Run.wA m := h3
  have ews : Cert.ReferenceIdeal.Run.wsA m' = Cert.KernelIdeal.Run.wsA m := h4
  refine ⟨fun _ => Spec.out (Cert.KernelIdeal.Run.gs m) (Cert.KernelIdeal.Run.xA m) (Cert.KernelIdeal.Run.xsA m) (Cert.KernelIdeal.Run.wA m)
    (Cert.KernelIdeal.Run.wsA m), kernel_run m g hF, ?_⟩
  have hr := reference_run m' g' (es ▸ hF)
  unfold Cert.ReferenceIdeal.Run.gs at hr
  rw [ex, exs, es, ew, ews] at hr
  exact hr

end Equation

end
-- ==== Proof.lean ====
module

public import proofs.«01_k».proof.Defs
public import proofs.«01_k».proof.Proof.KernelFrame
public import proofs.«01_k».proof.Proof.KernelRead
public import proofs.«01_k».proof.Proof.KernelIdealFrame
public import proofs.«01_k».proof.Proof.KernelIdealRead
public import proofs.«01_k».proof.Proof.Gen.Pre_sizes_fill_rows
public import proofs.«01_k».proof.Proof.Gen.ReferenceIdeal.Frame
public import proofs.«01_k».proof.Proof.Equation

@[expose] public section

noncomputable section

namespace Cert.Proof

open Idealize.ShloMosaic Idealize.ShloMosaic.TcCoe Idealize.SL.Sem

/-- The precondition of `Kernel`'s memory: its group sizes fill the rows. -/
theorem fills_Kernel (m : (ℓ : Loc Cert.Kernel.nD Cert.Kernel.τ Cert.Kernel.sig) → Buf (Elt Bits) ℓ)
    (h : Cert.Pre_Kernel (hPre_sizes_fill_rows := Cert.Pre_sizes_fill_rows.Gen.facts) m) : Fill.Fills (Cert.Kernel.Run.sizes m) :=
  letI := Cert.Pre_sizes_fill_rows.Gen.facts
  Fill.of_pre _ _ _ _ _ (h 0)

/-- The same of `KernelIdeal`'s. -/
theorem fills_KernelIdeal (m : (ℓ : Loc Cert.KernelIdeal.nD Cert.KernelIdeal.τ Cert.KernelIdeal.sig) → Buf (Elt Ideal) ℓ)
    (h : Cert.Pre_KernelIdeal (hPre_sizes_fill_rows := Cert.Pre_sizes_fill_rows.Gen.facts) m) : Fill.Fills (Cert.KernelIdeal.Run.sizes m) :=
  letI := Cert.Pre_sizes_fill_rows.Gen.facts
  Fill.of_pre _ _ _ _ _ (h 0)

theorem frame_Kernel : Cert.quiescent_Kernel (hKernel := Cert.Kernel.Gen.facts) (hPre_sizes_fill_rows := Cert.Pre_sizes_fill_rows.Gen.facts) :=
  fun m g h => Cert.Kernel.Run.frame m g (Cert.Kernel.Run.ok m (fills_Kernel m h)) (Cert.Kernel.Run.tabOK m (fills_Kernel m h))

theorem frame_KernelIdeal :
    Cert.quiescent_KernelIdeal (hKernelIdeal := Cert.KernelIdeal.Gen.facts) (hPre_sizes_fill_rows := Cert.Pre_sizes_fill_rows.Gen.facts) :=
  fun m g h => Cert.KernelIdeal.Run.frame m g (Cert.KernelIdeal.Run.ok m (fills_KernelIdeal m h)) (Cert.KernelIdeal.Run.tabOK m (fills_KernelIdeal m h))

theorem claim : Cert.Claim := ⟨Cert.Kernel.Gen.facts, Cert.KernelIdeal.Gen.facts, Cert.ReferenceIdeal.Gen.facts, Cert.Pre_sizes_fill_rows.Gen.facts,
  frame_Kernel, frame_KernelIdeal, fun m g _ => Cert.ReferenceIdeal.Gen.frame m g, fun m g _ => Cert.ReferenceIdeal.Gen.frame m g, trivial,
  fun m g m' g' h hargs => Equation.algebraic m g m' g' (fills_KernelIdeal m h) hargs⟩

end Cert.Proof

end
